-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_usable [hPre_rows_usable : Cert.Pre_rows_usable.Facts] (m : (ℓ : Loc Cert.KernelIdeal.nD Cert.KernelIdeal.τ Cert.KernelIdeal.sig) → Buf (Elt Ideal) ℓ) : Prop :=
  ∀ c : Dev Cert.KernelIdeal.nD,
    (Cert.Pre_rows_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_usable [hPre_rows_usable : Cert.Pre_rows_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_usable [hKernelIdeal : Cert.KernelIdeal.Facts] [hPre_rows_usable : Cert.Pre_rows_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_usable m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_usable [hReferenceIdeal : Cert.ReferenceIdeal.Facts] [hPre_rows_usable : Cert.Pre_rows_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_temp" .f32 0x41200000#32 ((134217728 / 13421773 : ℝ) : EReal)

def algebraic_KernelIdeal_ReferenceIdeal_pre_rows_usable [hKernelIdeal : Cert.KernelIdeal.Facts] [hReferenceIdeal : Cert.ReferenceIdeal.Facts] [hPre_rows_usable : Cert.Pre_rows_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_usable : Cert.Pre_rows_usable.Facts),
    quiescent_Kernel (hKernel := hKernel)
    ∧ quiescent_KernelIdeal (hKernelIdeal := hKernelIdeal)
    ∧ quiescent_KernelIdeal_pre_rows_usable (hKernelIdeal := hKernelIdeal) (hPre_rows_usable := hPre_rows_usable)
    ∧ quiescent_ReferenceIdeal (hReferenceIdeal := hReferenceIdeal)
    ∧ quiescent_ReferenceIdeal_pre_rows_usable (hReferenceIdeal := hReferenceIdeal) (hPre_rows_usable := hPre_rows_usable)
    ∧ preserves_Kernel_KernelIdeal
    ∧ algebraic_KernelIdeal_ReferenceIdeal_pre_rows_usable (hKernelIdeal := hKernelIdeal) (hReferenceIdeal := hReferenceIdeal) (hPre_rows_usable := hPre_rows_usable)
-- ==== Pre_rows_usable.lean ====
abbrev S1x2048x768 : Shape := ⟨3, ![1, 2048, 768]⟩
abbrev S_ : Shape := ⟨0, ![]⟩
abbrev S1x2048 : Shape := ⟨2, ![1, 2048]⟩

class Facts : Prop where
  reducesTo_S1x2048x768_S1x2048_d2 : S1x2048x768.ReducesTo [2] S1x2048
  h_S_ : 0 < S_.numel
  reducesTo_S1x2048_S_d0_1 : S1x2048.ReducesTo [0, 1] S_
  bcast_S_S1x2048 : S_.BroadcastsInDim S1x2048 (![] : Fin 0 → Fin S1x2048.rank)

variable [Facts]

def fn_part1 {F : FTy → Type} [FloatOps F] (main_v3 : FVec F S1x2048 .f32) (main_v12 : IVec S_ 1) (main_v14 : IVec S1x2048 1) (main_v15 : FVec F S1x2048 .f32) : IVec S_ 1 :=
  let main_v16 : IVec S1x2048 1 := cmpf .oge main_v3 main_v15
  let main_v17 : IVec S1x2048 1 := ori main_v14 main_v16
  let main_c_6 : IVec S_ 1 := constantI S_ 1 1#1
  let main_v18 : IVec S_ 1 := (fun x v => Host.reduce IntOp.andi x v reducesTo_S1x2048_S_d0_1 h_S_) main_v17 main_c_6
  let main_v19 : IVec S_ 1 := andi main_v12 main_v18
  main_v19

def fn {F : FTy → Type} [FloatOps F] (main_arg0 : FVec F S1x2048x768 .f32) (main_arg1 : FVec F S1x2048x768 .f32) (main_arg2 : FVec F S_ .f32) (main_arg3 : IVec S1x2048 1) : IVec S_ 1 :=
  let main_v0 : FVec F S1x2048x768 .f32 := mulf main_arg0 main_arg0
  let main_cst : FVec F S_ .f32 := constant S_ .f32 0x00000000#32
  let main_v1 : FVec F S1x2048 .f32 := (fun x v => Host.reduceAdd x v reducesTo_S1x2048x768_S1x2048_d2 h_S_) main_v0 main_cst
  let main_v2 : FVec F S1x2048x768 .f32 := mulf main_arg1 main_arg1
  let main_cst_0 : FVec F S_ .f32 := constant S_ .f32 0x00000000#32
  let main_v3 : FVec F S1x2048 .f32 := (fun x v => Host.reduceAdd x v reducesTo_S1x2048x768_S1x2048_d2 h_S_) main_v2 main_cst_0
  let main_v4 : IVec S1x2048 1 := noti main_arg3
  let main_c : IVec S_ 1 := constantI S_ 1 1#1
  let main_v5 : IVec S_ 1 := (fun x v => Host.reduce IntOp.andi x v reducesTo_S1x2048_S_d0_1 h_S_) main_v4 main_c
  let main_cst_1 : FVec F S_ .f32 := constant S_ .f32 0x00000000#32
  let main_v6 : FVec F S1x2048 .f32 := broadcastInDim S1x2048 ![] bcast_S_S1x2048 main_cst_1
  let main_v7 : IVec S1x2048 1 := cmpf .oeq main_v1 main_v6
  let main_cst_2 : FVec F S_ .f32 := constant S_ .f32 0x322BCC77#32
  let main_v8 : FVec F S1x2048 .f32 := broadcastInDim S1x2048 ![] bcast_S_S1x2048 main_cst_2
  let main_v9 : IVec S1x2048 1 := cmpf .oge main_v1 main_v8
  let main_v10 : IVec S1x2048 1 := ori main_v7 main_v9
  let main_c_3 : IVec S_ 1 := constantI S_ 1 1#1
  let main_v11 : IVec S_ 1 := (fun x v => Host.reduce IntOp.andi x v reducesTo_S1x2048_S_d0_1 h_S_) main_v10 main_c_3
  let main_v12 : IVec S_ 1 := andi main_v5 main_v11
  let main_cst_4 : FVec F S_ .f32 := constant S_ .f32 0x00000000#32
  let main_v13 : FVec F S1x2048 .f32 := broadcastInDim S1x2048 ![] bcast_S_S1x2048 main_cst_4
  let main_v14 : IVec S1x2048 1 := cmpf .oeq main_v3 main_v13
  let main_cst_5 : FVec F S_ .f32 := constant S_ .f32 0x322BCC77#32
  let main_v15 : FVec F S1x2048 .f32 := broadcastInDim S1x2048 ![] bcast_S_S1x2048 main_cst_5
  fn_part1 (F := F) main_v3 main_v12 main_v14 main_v15
-- ==== Kernel.lean ====
abbrev S1x2048x768 : Shape := ⟨3, ![1, 2048, 768]⟩
abbrev S_ : Shape := ⟨0, ![]⟩
abbrev S1x2048 : Shape := ⟨2, ![1, 2048]⟩
abbrev S32x2176 : Shape := ⟨2, ![32, 2176]⟩
abbrev S2048x768 : Shape := ⟨2, ![2048, 768]⟩
abbrev S1 : Shape := ⟨1, ![1]⟩
abbrev S16x2048x128 : Shape := ⟨3, ![16, 2048, 128]⟩
abbrev S256x768 : Shape := ⟨2, ![256, 768]⟩
abbrev S16x256x128 : Shape := ⟨3, ![16, 256, 128]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S256x2048 : Shape := ⟨2, ![256, 2048]⟩
abbrev S256x128 : Shape := ⟨2, ![256, 128]⟩
abbrev S1x256x128 : Shape := ⟨3, ![1, 256, 128]⟩
abbrev S4194304 : Shape := ⟨1, ![4194304]⟩
abbrev S2176 : Shape := ⟨1, ![2176]⟩
abbrev S64 : Shape := ⟨1, ![64]⟩
abbrev S1x2176 : Shape := ⟨2, ![1, 2176]⟩
abbrev S16 : Shape := ⟨1, ![16]⟩
abbrev S1x1 : Shape := ⟨2, ![1, 1]⟩

abbrev nBuf : Table → Nat
  | .hbm => 14
  | .local .tc .vmem => 7
  | .local .tc .smem => 2
  | .local .scVector .vmem => 4
  | _ => 0

abbrev bufTy : (tb : Table) → Fin (nBuf tb) → BufTy
  | .hbm, ⟨0, _⟩ => ⟨S1x2048x768, .f32⟩
  | .hbm, ⟨1, _⟩ => ⟨S1x2048x768, .f32⟩
  | .hbm, ⟨2, _⟩ => ⟨S_, .f32⟩
  | .hbm, ⟨3, _⟩ => ⟨S1x2048, .i1⟩
  | .hbm, ⟨4, _⟩ => ⟨S32x2176, .i32⟩
  | .hbm, ⟨5, _⟩ => ⟨S2048x768, .f32⟩
  | .hbm, ⟨6, _⟩ => ⟨S2048x768, .f32⟩
  | .hbm, ⟨7, _⟩ => ⟨S1, .f32⟩
  | .hbm, ⟨8, _⟩ => ⟨S16x2048x128, .f32⟩
  | .hbm, ⟨9, _⟩ => ⟨S4194304, .f32⟩
  | .hbm, ⟨10, _⟩ => ⟨S2048, .f32⟩
  | .hbm, ⟨11, _⟩ => ⟨S2048, .f32⟩
  | .hbm, ⟨12, _⟩ => ⟨S1x1, .f32⟩
  | .hbm, ⟨13, _⟩ => ⟨S_, .f32⟩
  | .local .tc .vmem, ⟨0, _⟩ => ⟨S256x768, .f32⟩
  | .local .tc .vmem, ⟨1, _⟩ => ⟨S256x768, .f32⟩
  | .local .tc .vmem, ⟨2, _⟩ => ⟨S2048x768, .f32⟩
  | .local .tc .vmem, ⟨3, _⟩ => ⟨S16x256x128, .f32⟩
  | .local .tc .vmem, ⟨4, _⟩ => ⟨S16x256x128, .f32⟩
  | .local .tc .vmem, ⟨5, _⟩ => ⟨S2048, .f32⟩
  | .local .tc .vmem, ⟨6, _⟩ => ⟨S2048, .f32⟩
  | .local .tc .smem, ⟨0, _⟩ => ⟨S1, .f32⟩
  | .local .tc .smem, ⟨1, _⟩ => ⟨S1x1, .f32⟩
  | .local .scVector .vmem, ⟨0, _⟩ => ⟨S2176, .i32⟩
  | .local .scVector .vmem, ⟨1, _⟩ => ⟨S2176, .f32⟩
  | .local .scVector .vmem, ⟨2, _⟩ => ⟨S64, .f32⟩
  | .local .scVector .vmem, ⟨3, _⟩ => ⟨S64, .f32⟩
  | _, _ => ⟨S1x2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v4_scv : Ref sig .scVector := ⟨.hbm, 9, rfl⟩
abbrev main_c_scv : Ref sig .scVector := ⟨.hbm, 4, rfl⟩
abbrev main_v5_0_scv : Ref sig .scVector := ⟨.hbm, 10, rfl⟩
abbrev main_v5_1_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.smem, 0, rfl⟩
abbrev cc2_stg3_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 9
abbrev cc2_sem1_0 : DmaSem sig := 10
abbrev cc2_sem2_0 : DmaSem sig := 11
abbrev cc2_sem3_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r0 : BitVec 32 := 0#32
  ![v1.toNat, 0]
def k1_off2 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v420 : BitVec 32 := Scalar.muli v1 c64_i32
  ![v420.toNat]
abbrev grid2 : Pipeline.Grid := .none

abbrev stage2_0 : Fin 1 → Memref sig .tc .vmem S2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .smem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_temp" => some ((134217728 / 13421773 : ℝ) : EReal)
  | _ => none
-- ==== ReferenceIdeal.lean ====
abbrev S1x2048x768 : Shape := ⟨3, ![1, 2048, 768]⟩
abbrev S_ : Shape := ⟨0, ![]⟩
abbrev S1x2048 : Shape := ⟨2, ![1, 2048]⟩
abbrev S2048x32 : Shape := ⟨2, ![2048, 32]⟩
abbrev S2048 : Shape := ⟨1, ![2048]⟩
abbrev S2048x1 : Shape := ⟨2, ![2048, 1]⟩
abbrev S1 : Shape := ⟨1, ![1]⟩
abbrev S2048x2 : Shape := ⟨2, ![2048, 2]⟩
abbrev S2048x768 : Shape := ⟨2, ![2048, 768]⟩
abbrev S2048x32x1 : Shape := ⟨3, ![2048, 32, 1]⟩
abbrev S2048x32x768 : Shape := ⟨3, ![2048, 32, 768]⟩
abbrev S2048x1x768 : Shape := ⟨3, ![2048, 1, 768]⟩
abbrev S2048x33x768 : Shape := ⟨3, ![2048, 33, 768]⟩
abbrev S2048x33 : Shape := ⟨2, ![2048, 33]⟩

abbrev nBuf : Space → Nat
  | .hbm => 181
  | .vmem => 0
  | .smem => 0
  | _ => 0

abbrev hbmTy0_0 (i : Nat) : BufTy := match i % 128 with
  | 0 => ⟨S1x2048x768, .f32⟩
  | 1 => ⟨S1x2048x768, .f32⟩
  | 2 => ⟨S_, .f32⟩
  | 3 => ⟨S1x2048, .i1⟩
  | 4 => ⟨S2048x32, .i32⟩
  | 5 => ⟨S1x2048, .i1⟩
  | 6 => ⟨S2048, .i1⟩
  | 7 => ⟨S2048, .i32⟩
  | 8 => ⟨S_, .i32⟩
  | 9 => ⟨S_, .i32⟩
  | 10 => ⟨S2048, .i32⟩
  | 11 => ⟨S_, .i32⟩
  | 12 => ⟨S2048, .i32⟩
  | 13 => ⟨S_, .i32⟩
  | 14 => ⟨S2048, .i32⟩
  | 15 => ⟨S2048, .i1⟩
  | 16 => ⟨S_, .i32⟩
  | 17 => ⟨S2048, .i32⟩
  | 18 => ⟨S2048, .i32⟩
  | 19 => ⟨S2048, .i32⟩
  | 20 => ⟨S2048x1, .i32⟩
  | 21 => ⟨S_, .i32⟩
  | 22 => ⟨S2048, .i32⟩
  | 23 => ⟨S2048, .i32⟩
  | 24 => ⟨S_, .i32⟩
  | 25 => ⟨S_, .i32⟩
  | 26 => ⟨S2048, .i32⟩
  | 27 => ⟨S_, .i32⟩
  | 28 => ⟨S_, .i32⟩
  | 29 => ⟨S2048, .i32⟩
  | 30 => ⟨S2048, .i32⟩
  | 31 => ⟨S2048, .i32⟩
  | 32 => ⟨S_, .i32⟩
  | 33 => ⟨S2048, .i32⟩
  | 34 => ⟨S2048, .i1⟩
  | 35 => ⟨S2048, .i32⟩
  | 36 => ⟨S2048, .i32⟩
  | 37 => ⟨S_, .i32⟩
  | 38 => ⟨S2048, .i32⟩
  | 39 => ⟨S2048, .i1⟩
  | 40 => ⟨S2048, .i1⟩
  | 41 => ⟨S_, .i32⟩
  | 42 => ⟨S2048, .i32⟩
  | 43 => ⟨S2048, .i32⟩
  | 44 => ⟨S2048, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i1⟩
  | 56 => ⟨S_, .i32⟩
  | 57 => ⟨S2048, .i32⟩
  | 58 => ⟨S2048, .i1⟩
  | 59 => ⟨S_, .i32⟩
  | 60 => ⟨S_, .i1⟩
  | 61 => ⟨S2048, .i1⟩
  | 62 => ⟨S2048, .i1⟩
  | 63 => ⟨S2048, .i1⟩
  | 64 => ⟨S2048, .i32⟩
  | 65 => ⟨S2048, .i32⟩
  | 66 => ⟨S2048, .i32⟩
  | 67 => ⟨S2048, .i32⟩
  | 68 => ⟨S_, .i32⟩
  | 69 => ⟨S_, .i32⟩
  | 70 => ⟨S1, .i32⟩
  | 71 => ⟨S2048, .i32⟩
  | 72 => ⟨S2048, .i32⟩
  | 73 => ⟨S2048, .i1⟩
  | 74 => ⟨S_, .i32⟩
  | 75 => ⟨S_, .i32⟩
  | 76 => ⟨S2048, .i32⟩
  | 77 => ⟨S2048, .i32⟩
  | 78 => ⟨S_, .i32⟩
  | 79 => ⟨S2048, .i32⟩
  | 80 => ⟨S2048, .i1⟩
  | 81 => ⟨S_, .i32⟩
  | 82 => ⟨S2048, .i32⟩
  | 83 => ⟨S2048, .i32⟩
  | 84 => ⟨S2048, .i32⟩
  | 85 => ⟨S_, .i32⟩
  | 86 => ⟨S2048, .i32⟩
  | 87 => ⟨S2048, .i32⟩
  | 88 => ⟨S2048x1, .i32⟩
  | 89 => ⟨S2048x1, .i32⟩
  | 90 => ⟨S2048x2, .i32⟩
  | 91 => ⟨S2048x768, .f32⟩
  | 92 => ⟨S_, .i32⟩
  | 93 => ⟨S2048, .i32⟩
  | 94 => ⟨S2048, .i1⟩
  | 95 => ⟨S_, .i32⟩
  | 96 => ⟨S2048, .i32⟩
  | 97 => ⟨S2048, .i32⟩
  | 98 => ⟨S2048, .i32⟩
  | 99 => ⟨S_, .i32⟩
  | 100 => ⟨S2048, .i32⟩
  | 101 => ⟨S2048, .i32⟩
  | 102 => ⟨S2048x1, .i32⟩
  | 103 => ⟨S2048x1, .i32⟩
  | 104 => ⟨S2048x2, .i32⟩
  | 105 => ⟨S2048x768, .f32⟩
  | 106 => ⟨S2048, .i32⟩
  | 107 => ⟨S2048x1, .i32⟩
  | 108 => ⟨S2048x32, .i32⟩
  | 109 => ⟨S2048x32, .i1⟩
  | 110 => ⟨S2048x32, .i32⟩
  | 111 => ⟨S2048x32, .i32⟩
  | 112 => ⟨S_, .i32⟩
  | 113 => ⟨S2048x32, .i32⟩
  | 114 => ⟨S2048x32, .i32⟩
  | 115 => ⟨S_, .i32⟩
  | 116 => ⟨S2048x32, .i32⟩
  | 117 => ⟨S2048x32, .i1⟩
  | 118 => ⟨S_, .i32⟩
  | 119 => ⟨S2048x32, .i32⟩
  | 120 => ⟨S2048x32, .i32⟩
  | 121 => ⟨S2048x32, .i32⟩
  | 122 => ⟨S2048x32x1, .i32⟩
  | 123 => ⟨S2048x32x768, .f32⟩
  | 124 => ⟨S2048x1x768, .f32⟩
  | 125 => ⟨S2048x33x768, .f32⟩
  | 126 => ⟨S2048x768, .f32⟩
  | 127 => ⟨S_, .f32⟩
  | _ => ⟨S1x2048x768, .f32⟩

abbrev hbmTy0_1 (i : Nat) : BufTy := match i % 128 with
  | 0 => ⟨S2048, .f32⟩
  | 1 => ⟨S2048x768, .f32⟩
  | 2 => ⟨S_, .f32⟩
  | 3 => ⟨S2048, .f32⟩
  | 4 => ⟨S2048, .f32⟩
  | 5 => ⟨S2048x768, .f32⟩
  | 6 => ⟨S_, .f32⟩
  | 7 => ⟨S2048, .f32⟩
  | 8 => ⟨S2048, .f32⟩
  | 9 => ⟨S2048, .f32⟩
  | 10 => ⟨S_, .f32⟩
  | 11 => ⟨S2048, .f32⟩
  | 12 => ⟨S2048, .f32⟩
  | 13 => ⟨S2048, .f32⟩
  | 14 => ⟨S_, .f32⟩
  | 15 => ⟨S2048, .f32⟩
  | 16 => ⟨S2048, .f32⟩
  | 17 => ⟨S2048, .f32⟩
  | 18 => ⟨S2048x1x768, .f32⟩
  | 19 => ⟨S2048x33x768, .f32⟩
  | 20 => ⟨S2048x33x768, .f32⟩
  | 21 => ⟨S_, .f32⟩
  | 22 => ⟨S2048x33, .f32⟩
  | 23 => ⟨S2048x1x768, .f32⟩
  | 24 => ⟨S_, .f32⟩
  | 25 => ⟨S2048x1, .f32⟩
  | 26 => ⟨S2048x1, .f32⟩
  | 27 => ⟨S2048x33x768, .f32⟩
  | 28 => ⟨S_, .f32⟩
  | 29 => ⟨S2048x33, .f32⟩
  | 30 => ⟨S2048x33, .f32⟩
  | 31 => ⟨S2048x33, .f32⟩
  | 32 => ⟨S2048x33, .f32⟩
  | 33 => ⟨S_, .f32⟩
  | 34 => ⟨S2048x33, .f32⟩
  | 35 => ⟨S2048x33, .f32⟩
  | 36 => ⟨S2048x33, .f32⟩
  | 37 => ⟨S_, .f32⟩
  | 38 => ⟨S2048x33, .f32⟩
  | 39 => ⟨S2048x33, .f32⟩
  | 40 => ⟨S2048x33, .f32⟩
  | 41 => ⟨S_, .f32⟩
  | 42 => ⟨S2048, .f32⟩
  | 43 => ⟨S2048, .f32⟩
  | 44 => ⟨S2048, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_call1_call0_c : Ref sig .tc := ⟨.hbm, 24, rfl⟩
abbrev main_call1_call0_v0 : Ref sig .tc := ⟨.hbm, 25, rfl⟩
abbrev main_v12 : Ref sig .tc := ⟨.hbm, 26, rfl⟩
abbrev main_c_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_0 : Ref sig .tc := ⟨.hbm, 41, rfl⟩
abbrev main_call2_v12 : Ref sig .tc := ⟨.hbm, 42, rfl⟩
abbrev main_call2_v13 : Ref sig .tc := ⟨.hbm, 43, rfl⟩
abbrev main_v13 : Ref sig .tc := ⟨.hbm, 44, rfl⟩
abbrev main_c_5 : Ref sig .tc := ⟨.hbm, 45, rfl⟩
abbrev main_call3_v0 : Ref sig .tc := ⟨.hbm, 46, rfl⟩
abbrev main_call3_c : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_c_1 : Ref sig .tc := ⟨.hbm, 53, rfl⟩
abbrev main_call3_v5 : Ref sig .tc := ⟨.hbm, 54, rfl⟩
abbrev main_call3_v6 : Ref sig .tc := ⟨.hbm, 55, rfl⟩
abbrev main_call3_c_2 : Ref sig .tc := ⟨.hbm, 56, rfl⟩
abbrev main_call3_v7 : Ref sig .tc := ⟨.hbm, 57, rfl⟩
abbrev main_call3_v8 : Ref sig .tc := ⟨.hbm, 58, rfl⟩
abbrev main_call3_c_3 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_v12 : Ref sig .tc := ⟨.hbm, 63, rfl⟩
abbrev main_call3_v13 : Ref sig .tc := ⟨.hbm, 64, rfl⟩
abbrev main_call3_v14 : Ref sig .tc := ⟨.hbm, 65, rfl⟩
abbrev main_v14 : Ref sig .tc := ⟨.hbm, 66, rfl⟩
abbrev main_v15 : Ref sig .tc := ⟨.hbm, 67, rfl⟩
abbrev main_c_6 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_c_7 : Ref sig .tc := ⟨.hbm, 74, rfl⟩
abbrev main_call4_v0 : Ref sig .tc := ⟨.hbm, 75, rfl⟩
abbrev main_call4_v1 : Ref sig .tc := ⟨.hbm, 76, rfl⟩
abbrev main_v21 : Ref sig .tc := ⟨.hbm, 77, rfl⟩
abbrev main_c_8 : Ref sig .tc := ⟨.hbm, 78, rfl⟩
abbrev main_v22 : Ref sig .tc := ⟨.hbm, 79, rfl⟩
abbrev main_v23 : Ref sig .tc := ⟨.hbm, 80, rfl⟩
abbrev main_c_9 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_c_10 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_c_11 : Ref sig .tc := ⟨.hbm, 92, rfl⟩
abbrev main_v33 : Ref sig .tc := ⟨.hbm, 93, rfl⟩
abbrev main_v34 : Ref sig .tc := ⟨.hbm, 94, rfl⟩
abbrev main_c_12 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_c_13 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_c_14 : Ref sig .tc := ⟨.hbm, 112, rfl⟩
abbrev main_v50 : Ref sig .tc := ⟨.hbm, 113, rfl⟩
abbrev main_v51 : Ref sig .tc := ⟨.hbm, 114, rfl⟩
abbrev main_c_15 : Ref sig .tc := ⟨.hbm, 115, rfl⟩
abbrev main_v52 : Ref sig .tc := ⟨.hbm, 116, rfl⟩
abbrev main_v53 : Ref sig .tc := ⟨.hbm, 117, rfl⟩
abbrev main_c_16 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst : Ref sig .tc := ⟨.hbm, 127, rfl⟩
abbrev main_v62 : Ref sig .tc := ⟨.hbm, 128, rfl⟩
abbrev main_v63 : Ref sig .tc := ⟨.hbm, 129, rfl⟩
abbrev main_cst_17 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_cst_18 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_cst_19 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_cst_20 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_cst_21 : Ref sig .tc := ⟨.hbm, 149, rfl⟩
abbrev main_v79 : Ref sig .tc := ⟨.hbm, 150, rfl⟩
abbrev main_v80 : Ref sig .tc := ⟨.hbm, 151, rfl⟩
abbrev main_cst_22 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_cst_23 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_24 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_25 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_26 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_cst_27 : Ref sig .tc := ⟨.hbm, 173, rfl⟩
abbrev main_v97 : Ref sig .tc := ⟨.hbm, 174, rfl⟩
abbrev main_cst_28 : Ref sig .tc := ⟨.hbm, 175, rfl⟩
abbrev main_v98 : Ref sig .tc := ⟨.hbm, 176, rfl⟩
abbrev main_v99 : Ref sig .tc := ⟨.hbm, 177, rfl⟩
abbrev main_cst_29 : Ref sig .tc := ⟨.hbm, 178, rfl⟩
abbrev main_v100 : Ref sig .tc := ⟨.hbm, 179, rfl⟩
abbrev main_v101 : Ref sig .tc := ⟨.hbm, 180, rfl⟩

abbrev nD : Nat := 1
abbrev τ : Topo := Topo.v7x

variable {F : FTy → Type} [FloatOps F]
-- ==== Proof.Setup.lean ====
/-
  What every module of the kernel's run shares: the program as the SparseCore launch sees it, the ghost state, the
  buffers' places, and the values the SparseCore call leaves.
-/
module

public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes, the two pipelines' rounds, the copies' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The SparseCore call's buffers -/

/-- The flat exponentials, the index table, and the two results (the sums over all columns, the first columns). -/
abbrev eLoc (d : Dev nD) : Loc nD τ sig := (SparseCore.T d).loc main_v4
abbrev cLoc (d : Dev nD) : Loc nD τ sig := (SparseCore.T d).loc main_c
abbrev nLoc (d : Dev nD) : Loc nD τ sig := (SparseCore.T d).loc main_v5_0
abbrev pLoc (d : Dev nD) : Loc nD τ sig := (SparseCore.T d).loc main_v5_1

/-! ## The values the call leaves -/

/-- Place `n` of the flat exponentials. -/
def flatIx (n : ℕ) : S4194304.Idx := fun
  | ⟨0, _⟩ => (⟨n % 4194304, Nat.mod_lt _ (by decide)⟩ : Fin 4194304)
  | ⟨_ + 1, h⟩ => absurd h (Nat.not_lt.2 (Nat.le_add_left _ _))

/-- Place `(w, x)` of the index table. -/
def tblIx (w : Fin 32) (x : ℕ) : S32x2176.Idx := fun
  | ⟨0, _⟩ => w
  | ⟨1, _⟩ => (⟨x % 2176, Nat.mod_lt _ (by decide)⟩ : Fin 2176)
  | ⟨_ + 2, h⟩ => absurd h (Nat.not_lt.2 (Nat.le_add_left _ _))

/-- What tile `w` gathers at place `x` of its list: the flat exponentials at the word the table's row `w` holds there. -/
def gath (e : S4194304.Idx → F .f32) (c : S32x2176.Idx → BitVec 32) (w : Fin 32) (x : ℕ) : F .f32 :=
  e (flatIx (c (tblIx w x)).toNat)

/-- The sum of `f 0`, …, `f n`, added in that order. -/
def sumTo (f : ℕ → F .f32) : ℕ → F .f32
  | 0 => f 0
  | n + 1 => FloatOps.addf (sumTo f n) (f (n + 1))

/-- Lane `t` of tile's list at step `k`. -/
def lane (g : ℕ → F .f32) (t : ℕ) (k : ℕ) : F .f32 := g (t + 64 * k)

/-- Row `i`'s tile and lane. -/
def tileOf (i : S2048.Idx) : Fin 32 := ⟨(i 0).val / 64, by have h : (i 0).val < 2048 := (i 0).isLt; omega⟩

/-- The first result: at each row the sum over its 33 columns. -/
def negOf (e : S4194304.Idx → F .f32) (c : S32x2176.Idx → BitVec 32) : S2048.Idx → F .f32 :=
  fun i => sumTo (lane (gath e c (tileOf i)) ((i 0).val % 64)) 32

/-- The second result: at each row the first of its columns. -/
def posOf (e : S4194304.Idx → F .f32) (c : S32x2176.Idx → BitVec 32) : S2048.Idx → F .f32 :=
  fun i => lane (gath e c (tileOf i)) ((i 0).val % 64) 0

end Cert.Proof.Run

end
-- ==== Proof.Gram.lean ====
/-
  The first TensorCore call's body: from a block of 256 anchor rows and all 2048 rows it leaves the exponentials of
  their scaled products, as 16 blocks of 128 columns.
-/
module

public import proofs.«01_k».proof.Proof.Setup
public import Idealize.ShloMosaic.Lib.Pipeline.Value
public import Idealize.ShloMosaic.Lib.VecWindow

@[expose] public section

noncomputable section

namespace Cert.Proof.Run

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- Row `r`, column `k` of a block's exponentials. -/
def rowCol (r k : ℕ) : S256x2048.Idx := fun
  | ⟨0, _⟩ => (⟨r % 256, Nat.mod_lt _ (by decide)⟩ : Fin 256)
  | ⟨1, _⟩ => (⟨k % 2048, Nat.mod_lt _ (by decide)⟩ : Fin 2048)
  | ⟨_ + 2, h⟩ => absurd h (Nat.not_lt.2 (Nat.le_add_left _ _))

/-- The 256 by 2048 exponentials as 16 blocks of 128 columns. -/
def inBlocks (v : S256x2048.Idx → F .f32) : S16x256x128.Idx → F .f32 :=
  fun i => v (rowCol (i 1).val ((i 0).val * 128 + (i 2).val))

/-- A block of 128 columns from column `o` on, given a leading axis of one, read at an index. -/
theorem columns_at (v : FVec F S256x2048 .f32) (o : ℕ) (ho : o + 128 ≤ 2048) (h : S256x2048.Slices ![0, o] S256x128) (x : S1x256x128.Idx) :
    shapeCast S1x256x128 (extractStridedSlice S256x128 ![0, o] v h) shapeCasts_S256x128_S1x256x128 x = v (rowCol (x 1).val (o + (x 2).val)) := by
  have h1 : (x 1).val < 256 := (x 1).isLt
  have h2 : (x 2).val < 128 := (x 2).isLt
  refine (shapeCast_addUnit_apply ![256, 128] _ shapeCasts_S256x128_S1x256x128 x).trans ?_
  refine extractStridedSlice_apply _ _ _ _ _ ?_
  intro a
  match a with
  | ⟨0, _⟩ => exact (Nat.mod_eq_of_lt h1).trans (Nat.zero_add _).symm
  | ⟨1, _⟩ => exact Nat.mod_eq_of_lt (by omega)

/-- Where block `j`'s store puts its entry `x`. -/
theorem block_emb (v : FVec F S256x2048 .f32) (j : ℕ) (h : ∀ a, ![j, 0, 0] a + S1x256x128.size a ≤ S16x256x128.size a) (x : S1x256x128.Idx) :
    inBlocks v ((Rect.unit (s := S16x256x128) ![j, 0, 0] S1x256x128.size h).emb x) = v (rowCol (x 1).val (j * 128 + (x 2).val)) := by
  have h0 : (x 0).val < 1 := (x 0).isLt
  show v (rowCol (0 + 1 * (x 1).val) ((j + 1 * (x 0).val) * 128 + (0 + 1 * (x 2).val))) = _
  rw [show (x 0).val = 0 by omega]
  simp only [Nat.one_mul, Nat.mul_zero, Nat.add_zero, Nat.zero_add]

/-- An index of leading coordinate `j` lies in block `j`. -/
theorem mem_block (y : S16x256x128.Idx) (j : ℕ) (hy : (y 0).val = j) (h : ∀ a, ![j, 0, 0] a + S1x256x128.size a ≤ S16x256x128.size a) :
    y ∈ (Rect.unit (s := S16x256x128) ![j, 0, 0] S1x256x128.size h).set := by
  rw [Rect.mem_set_unit]
  intro a
  match a with
  | ⟨0, _⟩ => exact ⟨hy.ge, by show (y 0).val < j + 1; omega⟩
  | ⟨1, _⟩ => exact ⟨Nat.zero_le _, by have : (y 1).val < 256 := (y 1).isLt; show (y 1).val < 0 + 256; omega⟩
  | ⟨2, _⟩ => exact ⟨Nat.zero_le _, by have : (y 2).val < 128 := (y 2).isLt; show (y 2).val < 0 + 128; omega⟩

theorem zero2 : (![0, 0] : Fin 2 → ℕ) = fun _ => 0 := by decide

/-- The body's run: the two inputs kept, the output left at the exponentials in blocks. -/
theorem gram_body (cc : Dev nD) (i : grid0.Coords) (M1 : Memref sig .tc .vmem S256x768 .f32) (h1 : M1.IsWhole) (M2 : Memref sig .tc .vmem S2048x768 .f32) (h2 : M2.IsWhole)
    (M3 : Memref sig .tc .vmem S16x256x128 .f32) (h3 : M3.IsWhole) (X1 : S256x768.Idx → F .f32) (X2 : S2048x768.Idx → F .f32) (E : Set ℕ) (Q : PUnit → sProp 𝕄) :
    iprop(owns (cc : Thread nD τ) M1 fullShare X1 ∗ owns (cc : Thread nD τ) M2 fullShare X2 ∗ (∃ X, owns (cc : Thread nD τ) M3 fullShare X)
      ∗ (iprop(owns (cc : Thread nD τ) M1 fullShare X1 ∗ owns (cc : Thread nD τ) M2 fullShare X2 ∗ owns (cc : Thread nD τ) M3 fullShare (inBlocks (k0_pay8 X1 X2))) -∗ Q ⟨⟩))
      ⊢ wp frame (wpE (defs₀ (F := F)) Variants.none (cc : Thread nD τ) none) E (cc0__gram_body i M1 h1 M2 h2 M3 h3) Q := by
  unfold owns
  iintro ⟨⟨%f1, %e1, H1⟩, ⟨%f2, %e2, H2⟩, ⟨%X3, %f3, -, H3⟩, Hk⟩
  sl_exec!
  sl_step
  iapply Hk
  isplitl [H1]
  · iexists f1; isplitr; · ipureintro; exact e1
    iexact H1
  isplitl [H2]
  · iexists f2; isplitr; · ipureintro; exact e2
    iexact H2
  iexists _; isplitr; swap; · iexact H3
  ipureintro
  subst e1; subst e2
  sl_unfold_words
  funext y
  have l1 : View.readAt (Elt F) M1.view (Rect.unit ![0, 0] S256x768.size inb_S256x768_S256x768_0_0).toLoadRect f1 = M1.view.read (Elt F) f1 :=
    (View.readAt_eq_ld _ _ _).trans (View.ld_unit_zero (S := S256x768) zero2 _ _)
  have l2 : View.readAt (Elt F) M2.view (Rect.unit ![0, 0] S2048x768.size inb_S2048x768_S2048x768_0_0).toLoadRect f2 = M2.view.read (Elt F) f2 :=
    (View.readAt_eq_ld _ _ _).trans (View.ld_unit_zero (S := S2048x768) zero2 _ _)
  rw [l1, l2]
  simp only [k0_pay9, k0_pay10, k0_pay11]
  generalize k0_pay8 (M1.view.read (Elt F) f1) (M2.view.read (Elt F) f2) = v
  refine View.read_writes_apply_of_pieces (Val := Elt F) (s := S16x256x128) (e := .f32) M3.view _ (inBlocks v) _ ?_ y ?_
  · simp only [List.forall_mem_cons]
    refine ⟨?_, ?_, ?_, ?_, ?_, ?_, ?_, ?_, ?_, ?_, ?_, ?_, ?_, ?_, ?_, ?_, fun _ h => absurd h List.not_mem_nil⟩
    · exact fun x => (columns_at v 1920 (by decide) _ x).trans (block_emb v 15 _ x).symm
    · exact fun x => (columns_at v 1792 (by decide) _ x).trans (block_emb v 14 _ x).symm
    · exact fun x => (columns_at v 1664 (by decide) _ x).trans (block_emb v 13 _ x).symm
    · exact fun x => (columns_at v 1536 (by decide) _ x).trans (block_emb v 12 _ x).symm
    · exact fun x => (columns_at v 1408 (by decide) _ x).trans (block_emb v 11 _ x).symm
    · exact fun x => (columns_at v 1280 (by decide) _ x).trans (block_emb v 10 _ x).symm
    · exact fun x => (columns_at v 1152 (by decide) _ x).trans (block_emb v 9 _ x).symm
    · exact fun x => (columns_at v 1024 (by decide) _ x).trans (block_emb v 8 _ x).symm
    · exact fun x => (columns_at v 896 (by decide) _ x).trans (block_emb v 7 _ x).symm
    · exact fun x => (columns_at v 768 (by decide) _ x).trans (block_emb v 6 _ x).symm
    · exact fun x => (columns_at v 640 (by decide) _ x).trans (block_emb v 5 _ x).symm
    · exact fun x => (columns_at v 512 (by decide) _ x).trans (block_emb v 4 _ x).symm
    · exact fun x => (columns_at v 384 (by decide) _ x).trans (block_emb v 3 _ x).symm
    · exact fun x => (columns_at v 256 (by decide) _ x).trans (block_emb v 2 _ x).symm
    · exact fun x => (columns_at v 128 (by decide) _ x).trans (block_emb v 1 _ x).symm
    · exact fun x => (columns_at v 0 (by decide) _ x).trans (block_emb v 0 _ x).symm
  · have hy : (y 0).val < 16 := (y 0).isLt
    obtain ⟨j, hj⟩ : ∃ j, (y 0).val = j := ⟨_, rfl⟩
    rw [hj] at hy
    match j, hj, hy with
    | 0, hj, _ => exact ⟨_, .tail _ (.tail _ (.tail _ (.tail _ (.tail _ (.tail _ (.tail _ (.tail _ (.tail _ (.tail _ (.tail _ (.tail _ (.tail _ (.tail _ (.tail _ (.head _))))))))))))))), mem_block y 0 hj inb_S16x256x128_S1x256x128_0_0_0⟩
    | 1, hj, _ => exact ⟨_, .tail _ (.tail _ (.tail _ (.tail _ (.tail _ (.tail _ (.tail _ (.tail _ (.tail _ (.tail _ (.tail _ (.tail _ (.tail _ (.tail _ (.head _)))))))))))))), mem_block y 1 hj inb_S16x256x128_S1x256x128_1_0_0⟩
    | 2, hj, _ => exact ⟨_, .tail _ (.tail _ (.tail _ (.tail _ (.tail _ (.tail _ (.tail _ (.tail _ (.tail _ (.tail _ (.tail _ (.tail _ (.tail _ (.head _))))))))))))), mem_block y 2 hj inb_S16x256x128_S1x256x128_2_0_0⟩
    | 3, hj, _ => exact ⟨_, .tail _ (.tail _ (.tail _ (.tail _ (.tail _ (.tail _ (.tail _ (.tail _ (.tail _ (.tail _ (.tail _ (.tail _ (.head _)))))))))))), mem_block y 3 hj inb_S16x256x128_S1x256x128_3_0_0⟩
    | 4, hj, _ => exact ⟨_, .tail _ (.tail _ (.tail _ (.tail _ (.tail _ (.tail _ (.tail _ (.tail _ (.tail _ (.tail _ (.tail _ (.head _))))))))))), mem_block y 4 hj inb_S16x256x128_S1x256x128_4_0_0⟩
    | 5, hj, _ => exact ⟨_, .tail _ (.tail _ (.tail _ (.tail _ (.tail _ (.tail _ (.tail _ (.tail _ (.tail _ (.tail _ (.head _)))))))))), mem_block y 5 hj inb_S16x256x128_S1x256x128_5_0_0⟩
    | 6, hj, _ => exact ⟨_, .tail _ (.tail _ (.tail _ (.tail _ (.tail _ (.tail _ (.tail _ (.tail _ (.tail _ (.head _))))))))), mem_block y 6 hj inb_S16x256x128_S1x256x128_6_0_0⟩
    | 7, hj, _ => exact ⟨_, .tail _ (.tail _ (.tail _ (.tail _ (.tail _ (.tail _ (.tail _ (.tail _ (.head _)))))))), mem_block y 7 hj inb_S16x256x128_S1x256x128_7_0_0⟩
    | 8, hj, _ => exact ⟨_, .tail _ (.tail _ (.tail _ (.tail _ (.tail _ (.tail _ (.tail _ (.head _))))))), mem_block y 8 hj inb_S16x256x128_S1x256x128_8_0_0⟩
    | 9, hj, _ => exact ⟨_, .tail _ (.tail _ (.tail _ (.tail _ (.tail _ (.tail _ (.head _)))))), mem_block y 9 hj inb_S16x256x128_S1x256x128_9_0_0⟩
    | 10, hj, _ => exact ⟨_, .tail _ (.tail _ (.tail _ (.tail _ (.tail _ (.head _))))), mem_block y 10 hj inb_S16x256x128_S1x256x128_10_0_0⟩
    | 11, hj, _ => exact ⟨_, .tail _ (.tail _ (.tail _ (.tail _ (.head _)))), mem_block y 11 hj inb_S16x256x128_S1x256x128_11_0_0⟩
    | 12, hj, _ => exact ⟨_, .tail _ (.tail _ (.tail _ (.head _))), mem_block y 12 hj inb_S16x256x128_S1x256x128_12_0_0⟩
    | 13, hj, _ => exact ⟨_, .tail _ (.tail _ (.head _)), mem_block y 13 hj inb_S16x256x128_S1x256x128_13_0_0⟩
    | 14, hj, _ => exact ⟨_, .tail _ (.head _), mem_block y 14 hj inb_S16x256x128_S1x256x128_14_0_0⟩
    | 15, hj, _ => exact ⟨_, .head _, mem_block y 15 hj inb_S16x256x128_S1x256x128_15_0_0⟩
    | n + 16, _, hy => exact absurd hy (by omega)

end Cert.Proof.Run

end
-- ==== Proof.Finish.lean ====
/-
  The second TensorCore call's body: from the two results of the SparseCore call and the distillation loss it leaves the
  loss.
-/
module

public import proofs.«01_k».proof.Proof.Setup
public import Idealize.ShloMosaic.Lib.Pipeline.Value
public import Idealize.ShloMosaic.Lib.VecWindow

@[expose] public section

noncomputable section

namespace Cert.Proof.Run

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The one index of an array of one element. -/
def only : S1.Idx := fun
  | ⟨0, _⟩ => (0 : Fin 1)
  | ⟨_ + 1, h⟩ => absurd h (Nat.not_lt.2 (Nat.le_add_left _ _))

theorem eq_only (x : S1.Idx) : x = only := by
  funext a
  match a with
  | ⟨0, _⟩ => exact Subsingleton.elim (α := Fin 1) _ _

theorem zero1 : (![0] : Fin 1 → ℕ) = fun _ => 0 := by decide
theorem zero11 : (![0, 0] : Fin 2 → ℕ) = fun _ => 0 := by decide

/-- The body's run: the three inputs kept, the output left at the loss. -/
theorem finish_body (cc : Dev nD) (M0 : Memref sig .tc .vmem S2048 .f32) (h0 : M0.IsWhole) (M1 : Memref sig .tc .vmem S2048 .f32) (h1 : M1.IsWhole)
    (M2 : Memref sig .tc .smem S1 .f32) (h2 : M2.IsWhole) (M3 : Memref sig .tc .smem S1x1 .f32) (h3 : M3.IsWhole)
    (X0 X1 : S2048.Idx → F .f32) (X2 : S1.Idx → F .f32) (E : Set ℕ) (Q : PUnit → sProp 𝕄) :
    iprop(owns (cc : Thread nD τ) M0 fullShare X0 ∗ owns (cc : Thread nD τ) M1 fullShare X1 ∗ owns (cc : Thread nD τ) M2 fullShare X2 ∗ (∃ X, owns (cc : Thread nD τ) M3 fullShare X)
      ∗ (iprop(owns (cc : Thread nD τ) M0 fullShare X0 ∗ owns (cc : Thread nD τ) M1 fullShare X1 ∗ owns (cc : Thread nD τ) M2 fullShare X2
          ∗ owns (cc : Thread nD τ) M3 fullShare (fun _ => k2_pay1 X0 X1 (X2 only))) -∗ Q ⟨⟩))
      ⊢ wp frame (wpE (defs₀ (F := F)) Variants.none (cc : Thread nD τ) none) E (cc2__finish_body M0 h0 M1 h1 M2 h2 M3 h3) Q := by
  unfold owns
  iintro ⟨⟨%f0, %e0, H0⟩, ⟨%f1, %e1, H1⟩, ⟨%f2, %e2, H2⟩, ⟨%X3, %f3, -, H3⟩, Hk⟩
  sl_exec!
  sl_step
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists _; isplitr; swap; · iexact H3
  ipureintro
  subst e0; subst e1; subst e2
  sl_unfold_words
  have l0 : View.readAt (Elt F) M0.view (Rect.unit ![0] S2048.size inb_S2048_S2048_0).toLoadRect f0 = M0.view.read (Elt F) f0 :=
    (View.readAt_eq_ld _ _ _).trans (View.ld_unit_zero (S := S2048) zero1 _ _)
  have l1 : View.readAt (Elt F) M1.view (Rect.unit ![0] S2048.size inb_S2048_S2048_0).toLoadRect f1 = M1.view.read (Elt F) f1 :=
    (View.readAt_eq_ld _ _ _).trans (View.ld_unit_zero (S := S2048) zero1 _ _)
  have l2 : View.readAt (Elt F) M2.view (Rect.unit ![0] S1.size inb_S1_S1_0).toLoadRect f2 = M2.view.read (Elt F) f2 :=
    (View.readAt_eq_ld _ _ _).trans (View.ld_unit_zero (S := S1) zero1 _ _)
  rw [l0, l1, l2]
  funext y
  refine View.read_writes_apply_of_pieces (Val := Elt F) (s := S1x1) (e := .f32) M3.view _ (fun _ => k2_pay1 (M0.view.read (Elt F) f0) (M1.view.read (Elt F) f1) (M2.view.read (Elt F) f2 only)) _ ?_ y ?_
  · simp only [List.forall_mem_cons]
    refine ⟨fun _ => ?_, fun _ h => absurd h List.not_mem_nil⟩
    rw [eq_only (Shape.Idx.first _)]
    rfl
  · exact ⟨_, .head _, View.mem_set_unit_zero zero11 inb_S1x1_S1x1_0_0 y⟩

end Cert.Proof.Run

end
-- ==== Proof.Regions.lean ====
/-
  The two TensorCore calls as regions of @main: entered with every unscoped buffer at a valuation and what the thread
  owes, left with the call's result written and all else as it was.
-/
module

public import proofs.«01_k».proof.Proof.Gram
public import proofs.«01_k».proof.Proof.Finish
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody

@[expose] public section

noncomputable section

namespace Cert.Proof.Run

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- The pipelines' tables: none. -/
abbrev adm : (p : Fin 2) → (pcfgs (F := F) p).Adm := fun p => (cfgs p).toPCfg_adm

/-- Waits a TensorCore thread may have recorded between calls `n - 1` and `n`. -/
def waitsBelow (c : Dev nD) (n : ℕ) : Set (SemLoc sig × HIx 1) := {p | (K (F := F)).lev (T c, p.1) p.2 ≤ 8 * n}

/-- What the TensorCore's thread owes before call `n`, and the waits it has recorded. -/
def owesBefore (c : Dev nD) (n : ℕ) : sProp 𝕄 :=
  iprop(∃ W, ⌜(K (F := F)).WBelow (T c) W (8 * n)⌝ ∗ owes (c : Thread nD τ) ((K (F := F)).Otc c n) W)

/-! ## The first call -/

/-- The block of anchor rows at point `t`, and all the rows. -/
abbrev rowsAt (c : Dev nD) (t : Fin cfg0.N) : S256x768.Idx → F .f32 := ((cfg0.win 0).blk t).view.read (Elt F) (V c main_v0)
abbrev allAt (c : Dev nD) (t : Fin cfg0.N) : S2048x768.Idx → F .f32 := ((cfg0.win 1).blk t).view.read (Elt F) (V c main_v1)

/-- The first call's proof data, entered at valuation `V`. -/
def datG (c : Dev nD) : Dat τ (Elt F) (HIx 1) ℕ UU ℕ cfg0 c where
  A w := V c (Pipeline.arrRef spec0 w)
  after w t := match w with
    | ⟨0, _⟩ => rowsAt V c t
    | ⟨1, _⟩ => allAt V c t
    | ⟨2, _⟩ => inBlocks (k0_pay8 (rowsAt V c t) (allAt V c t))
  Φ _ := Pipeline.scopedRest (Ix := HIx 1) (Name := ℕ) (U := UU) (Lvl := ℕ) (Val := Elt F) spec0 c
  q _ := fullShare
  owed _ := (K (F := F)).Otc c 0
  recorded _ := waitsBelow (F := F) c 0

/-- The second call's proof data, entered at valuation `V`. -/
abbrev posAt (c : Dev nD) (t : Fin cfg2.N) : S2048.Idx → F .f32 := ((cfg2.win 0).blk t).view.read (Elt F) (V c main_v5_1)
abbrev negAt (c : Dev nD) (t : Fin cfg2.N) : S2048.Idx → F .f32 := ((cfg2.win 1).blk t).view.read (Elt F) (V c main_v5_0)
abbrev disAt (c : Dev nD) (t : Fin cfg2.N) : S1.Idx → F .f32 := ((cfg2.win 2).blk t).view.read (Elt F) (V c main_v2)

def datF (c : Dev nD) : Dat τ (Elt F) (HIx 1) ℕ UU ℕ cfg2 c where
  A w := V c (Pipeline.arrRef spec2 w)
  after w t := match w with
    | ⟨0, _⟩ => posAt V c t
    | ⟨1, _⟩ => negAt V c t
    | ⟨2, _⟩ => disAt V c t
    | ⟨3, _⟩ => fun _ => k2_pay1 (posAt V c t) (negAt V c t) (disAt V c t only)
  Φ _ := Pipeline.scopedRest (Ix := HIx 1) (Name := ℕ) (U := UU) (Lvl := ℕ) (Val := Elt F) spec2 c
  q _ := fullShare
  owed _ := (K (F := F)).Otc c 1
  recorded _ := waitsBelow (F := F) c 1

/-- The proof data of both. -/
def pdats : (p : Fin 2) → (c : Dev nD) → Dat τ (Elt F) (HIx 1) ℕ UU ℕ (Pipeline.pin (pcfgs (F := F)) adm p) c
  | ⟨0, _⟩ => fun c => datG V c
  | ⟨1, _⟩ => fun c => datF V c

theorem beforeG0 (c : Dev nD) (t : Fin cfg0.N) (d) : (datG V c).before 0 t d = rowsAt V c t :=
  (datG V c).before_in_eq_fetched 0 rfl (fun _ => rfl) (fun _ _ _ => rfl) (fun _ => rfl) t d
theorem beforeG1 (c : Dev nD) (t : Fin cfg0.N) (d) : (datG V c).before 1 t d = allAt V c t :=
  (datG V c).before_in_eq_fetched 1 rfl (fun _ => rfl) (fun _ _ _ => rfl) (fun _ => rfl) t d
theorem beforeF0 (c : Dev nD) (t : Fin cfg2.N) (d) : (datF V c).before 0 t d = posAt V c t :=
  (datF V c).before_in_eq_fetched 0 rfl (fun _ => rfl) (fun _ _ _ => rfl) (fun _ => rfl) t d
theorem beforeF1 (c : Dev nD) (t : Fin cfg2.N) (d) : (datF V c).before 1 t d = negAt V c t :=
  (datF V c).before_in_eq_fetched 1 rfl (fun _ => rfl) (fun _ _ _ => rfl) (fun _ => rfl) t d
theorem beforeF2 (c : Dev nD) (t : Fin cfg2.N) (d) : (datF V c).before 2 t d = disAt V c t :=
  (datF V c).before_in_eq_fetched 2 rfl (fun _ => rfl) (fun _ _ _ => rfl) (fun _ => rfl) t d

/-- The first call's body obligation. -/
theorem obligationG (c : Dev nD) : BodyObligation (datG V c) (defs₀ (F := F)) 𝒱₀ none Set.univ := fun t => by
  rw [bigSep_W0, bigSep_W0]
  rw [show (datG V c).Φ t.succ = (datG V c).Φ t.castSucc from rfl, show (datG V c).owesAt none t.succ = (datG V c).owesAt none t.castSucc from rfl]
  iintro ⟨HΦ, Howes, ⟨%d0, H0⟩, ⟨%d1, H1⟩, ⟨%d2, H2⟩⟩
  rw [beforeG0, beforeG1]
  iapply (gram_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (rowsAt V c t) (allAt V c t) Set.univ _)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

/-- The second call's body obligation. -/
theorem obligationF (c : Dev nD) : BodyObligation (datF V c) (defs₀ (F := F)) 𝒱₀ none Set.univ := fun t => by
  rw [bigSep_W2, bigSep_W2]
  rw [show (datF V c).Φ t.succ = (datF V c).Φ t.castSucc from rfl, show (datF V c).owesAt none t.succ = (datF V c).owesAt none t.castSucc from rfl]
  iintro ⟨HΦ, Howes, ⟨%d0, H0⟩, ⟨%d1, H1⟩, ⟨%d2, H2⟩, ⟨%d3, H3⟩⟩
  rw [beforeF0, beforeF1, beforeF2]
  iapply (finish_body c (win2_0.stage (cfg2.slots t 0)) (hstage2_0 0) (win2_1.stage (cfg2.slots t 1)) (hstage2_1 0) (win2_2.stage (cfg2.slots t 2)) (hstage2_2 0) (win2_3.stage (cfg2.slots t 3)) (hstage2_3 0) (posAt V c t) (negAt V c t) (disAt V c t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

end Cert.Proof.Run

end
-- ==== Proof.Segs.lean ====
/-
  The two TensorCore calls as segments: from the unscoped buffers at a valuation to the same with the result's array
  replaced.
-/
module

public import proofs.«01_k».proof.Proof.Regions

@[expose] public section

noncomputable section

namespace Cert.Proof.Run

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig (HIx 1) (Elt F) ℕ UU ℕ

variable (V Vp : (c : Dev nD) → (b : Ref sig .tc) → Buf (Elt F) ((c : Thread nD τ).loc b))

/-- Nothing is owed at a copy's own index. -/
theorem Otc_none (c : Dev nD) (n : ℕ) : ∀ g, (K (F := F)).Otc c n g none = 0 := by
  intro g
  unfold SparseCore.Cfg.Otc
  simp only [Finset.sum_apply, Finsupp.finset_sum_apply]
  refine Finset.sum_eq_zero fun q _ => ?_
  split
  · simp only [Finset.sum_apply, Finsupp.finset_sum_apply]
    refine Finset.sum_eq_zero fun c' _ => ?_
    rw [tallyAt_apply, if_neg fun h => nomatch h.2]
  · rfl

/-- What is owed, as the region's proof data states it at its first point. -/
theorem owes_in (cfg : Pipeline.Cfg sig Λ₀) (c : Dev nD) (n : ℕ) (dat : Dat τ (Elt F) (HIx 1) ℕ UU ℕ cfg c) (t : Fin (cfg.N + 1))
    (ho : dat.owed t = (K (F := F)).Otc c n) (hr : dat.recorded t = waitsBelow (F := F) c n) :
    owesBefore (F := F) c n ⊢ dat.owesAt none t := by
  unfold Pipeline.Dat.owesAt Pipeline.owesWithin owesBefore
  rw [ho]
  iintro ⟨%W, %hW, HO⟩
  iexists W
  isplitr
  · ipureintro
    intro p hp
    refine Or.inl ?_
    rw [hr]
    exact hW p hp
  · iexact HO

/-- And back, after its last. -/
theorem owes_out (cfg : Pipeline.Cfg sig Λ₀) (c : Dev nD) (n : ℕ) (dat : Dat τ (Elt F) (HIx 1) ℕ UU ℕ cfg c) (t : Fin (cfg.N + 1))
    (ho : dat.owed t = (K (F := F)).Otc c n) (hr : dat.recorded t = waitsBelow (F := F) c n) :
    dat.owesAt none t ⊢ owesBefore (F := F) c n := by
  unfold Pipeline.Dat.owesAt Pipeline.owesWithin owesBefore
  rw [ho]
  iintro ⟨%W, %hW, HO⟩
  iexists W
  isplitr
  · ipureintro
    intro p hp
    rcases hW hp with h | h
    · rw [hr] at h; exact h
    · obtain ⟨w, s, rfl⟩ := h
      exact Nat.zero_le _
  · iexact HO

set_option backward.isDefEq.respectTransparency.types false in
/-- The first call over the thread's state. -/
def segG (hVp_out : ∀ c, Vp c main_v3 = (datG V c).arrAt 2 cfg0.N) (hVp_ne : ∀ c (b : Ref sig .tc), b ≠ main_v3 → Vp c b = V c b) :
    Pipeline.RegionSeg (pcfgs (F := F)) adm (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (obligationG V c).loose
  hwaits c := Pipeline.cellsWaits_intro _ _ none 0 c fun _ _ _ => (K (F := F)).mayWait_none _ (Otc_none c 0)
  pre c := iprop(unscopedBufs c (V c) ∗ owesBefore (F := F) c 0)
  post c := iprop(unscopedBufs c (Vp c) ∗ owesBefore (F := F) c 0)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in cfg0 c 0 (datG V c) 0 rfl rfl); iexact HO
    isplitr; · iempintro
    iexact Hrest
  hin c := by
    rw [show (pdats V 0 c).Φ 0 = Pipeline.scopedRest spec0 c from rfl]
    iintro ⟨-, -, Hr⟩; iexact Hr
  hout c := by
    rw [Pipeline.ownSems0_none, show (pdats V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_v0 (by decide)).symm
        · exact ((pdats V 0 c).arrAt_in 1 rfl _).trans (hVp_ne c main_v1 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    iapply (owes_out cfg0 c 0 (datG V c) (Fin.last _) rfl rfl); iexact HO

set_option backward.isDefEq.respectTransparency.types false in
/-- The second call over the thread's state. -/
def segF (hVp_out : ∀ c, Vp c main_v6 = (datF V c).arrAt 3 cfg2.N) (hVp_ne : ∀ c (b : Ref sig .tc), b ≠ main_v6 → Vp c b = V c b) :
    Pipeline.RegionSeg (pcfgs (F := F)) adm (pdats V) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (obligationF V c).loose
  hwaits c := Pipeline.cellsWaits_intro _ _ none 1 c fun _ _ _ => (K (F := F)).mayWait_none _ (Otc_none c 1)
  pre c := iprop(unscopedBufs c (V c) ∗ owesBefore (F := F) c 1)
  post c := iprop(unscopedBufs c (Vp c) ∗ owesBefore (F := F) c 1)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V) (launch2).win (launch2).arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in cfg2 c 1 (datF V c) 0 rfl rfl); iexact HO
    isplitr; · iempintro
    iexact Hrest
  hin c := by
    rw [show (pdats V 1 c).Φ 0 = Pipeline.scopedRest spec2 c from rfl]
    iintro ⟨-, -, Hr⟩; iexact Hr
  hout c := by
    rw [Pipeline.ownSems0_none, show (pdats V 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdats V) ((pdats V 1 c).share_full fun _ => rfl) (V c) (Vp c) ((pdats V 1 c).arrAt · cfg2.N)
      (fun w => by
        fin_cases w
        · exact ((pdats V 1 c).arrAt_in 0 rfl _).trans (hVp_ne c main_v5_1 (by decide)).symm
        · exact ((pdats V 1 c).arrAt_in 1 rfl _).trans (hVp_ne c main_v5_0 (by decide)).symm
        · exact ((pdats V 1 c).arrAt_in 2 rfl _).trans (hVp_ne c main_v2 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    iapply (owes_out cfg2 c 1 (datF V c) (Fin.last _) rfl rfl); iexact HO

end Cert.Proof.Run

end
-- ==== Proof.Tile.lean ====
/-
  One task of the SparseCore call, run once at a symbolic SparseCore and vector subcore: it fetches its row of the
  index table, gathers the flat exponentials at it, and for each of its 64 rows leaves the first gathered word and
  the sum of all 33 in the two results.
-/
module

public import proofs.«01_k».proof.Proof.Setup
public import Idealize.ShloMosaic.Lib.ShareLeaves
public import Idealize.ShloMosaic.Lib.Pipeline.Value
public import Idealize.ShloMosaic.Lib.VecWindow

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The task's views -/

abbrev eV : Memref sig .scVector .hbm S4194304 .f32 := Memref.whole main_v4_scv
abbrev cV : Memref sig .scVector .hbm S32x2176 .i32 := Memref.whole main_c_scv
abbrev nV : Memref sig .scVector .hbm S2048 .f32 := Memref.whole main_v5_0_scv
abbrev pV : Memref sig .scVector .hbm S2048 .f32 := Memref.whole main_v5_1_scv
abbrev sV : Memref sig .scVector .vmem S2176 .i32 := Memref.whole cc1_scratch0
abbrev rV : Memref sig .scVector .vmem S2176 .f32 := Memref.whole cc1_scratch1
abbrev anV : Memref sig .scVector .vmem S64 .f32 := Memref.whole cc1_scratch2
abbrev apV : Memref sig .scVector .vmem S64 .f32 := Memref.whole cc1_scratch3

theorem cdiv : 32 ∣ S32x2176.size 0 := ⟨1, rfl⟩
theorem odiv : 32 ∣ S2048.size 0 := ⟨64, rfl⟩
/-- Tile `w`'s row of the table and its 64 rows of a result. -/
abbrev crow (w : Fin 32) : Rect S32x2176 := Rect.part (s := S32x2176) (a₀ := 0) cdiv w
abbrev orow (w : Fin 32) : Rect S2048 := Rect.part (s := S2048) (a₀ := 0) odiv w
abbrev cRowSet (w : Fin 32) : Finset S32x2176.Idx := (cV.view.slice (crow w)).set
abbrev nRowSet (w : Fin 32) : Finset S2048.Idx := (nV.view.slice (orow w)).set
abbrev pRowSet (w : Fin 32) : Finset S2048.Idx := (pV.view.slice (orow w)).set

/-- Tile `w`'s share of the flat exponentials. -/
abbrev eq' (w : Fin 32) : PosShare TreeShare := ShareLeaves.leaf 5 fullShare w

/-! ## What a task is handed and hands back -/

variable (e : (d : Dev nD) → Buf (Elt F) (eLoc d)) (c : (d : Dev nD) → Buf (Elt F) (cLoc d))

abbrev eShPts (d : Dev nD) (w : Fin 32) : sProp 𝕄 := eLoc d ↦{eq' w} e d
abbrev cRowPts (d : Dev nD) (w : Fin 32) : sProp 𝕄 := cLoc d ↦[cRowSet w]{fullShare} c d
abbrev nRowPts (d : Dev nD) (w : Fin 32) (f : Buf (Elt F) (nLoc d)) : sProp 𝕄 := nLoc d ↦[nRowSet w]{fullShare} f
abbrev pRowPts (d : Dev nD) (w : Fin 32) (f : Buf (Elt F) (pLoc d)) : sProp 𝕄 := pLoc d ↦[pRowSet w]{fullShare} f

/-- Every word of the index table names a place of the flat exponentials. -/
def InRange : Prop := ∀ (d : Dev nD) (j : S32x2176.Idx), (show BitVec 32 from c d j).toNat < 4194304

section Tile

variable (d : Dev nD) (L : grid1.Coords)

abbrev cC (L : grid1.Coords) : Fin τ.nSC := (L 0).castLE hcore1
abbrev jC (L : grid1.Coords) : Fin τ.nSub := (L 1).castLE hsub1
/-- The tile's number. -/
def wid (L : grid1.Coords) : Fin 32 :=
  ⟨16 * (L 0).val + (L 1).val, by have h0 : (L 0).val < 2 := (L 0).isLt; have h1 : (L 1).val < 16 := (L 1).isLt; omega⟩

abbrev crowK (L : grid1.Coords) : Rect S32x2176 := Rect.unit (s := S32x2176) (k1_off1 L) S1x2176.size (k1_off1_inb L)
abbrev orowK (L : grid1.Coords) : Rect S2048 := Rect.unit (s := S2048) (k1_off2 L) S64.size (k1_off2_inb L)
/-- The same pieces as the task addresses them. -/
abbrev cRowK (L : grid1.Coords) : Memref sig .scVector .hbm S2176 .i32 := (cV.slice (crowK L) (fun _ => rfl)).squeeze S2176 squeezes_S1x2176_S2176
abbrev nRowK (L : grid1.Coords) : Memref sig .scVector .hbm S64 .f32 := nV.slice (orowK L) (fun _ => rfl)
abbrev pRowK (L : grid1.Coords) : Memref sig .scVector .hbm S64 .f32 := pV.slice (orowK L) (fun _ => rfl)
abbrev eAllK : Memref sig .scVector .hbm S4194304 .f32 := eV.slice (Rect.unit (s := S4194304) ![0] S4194304.size inb_S4194304_S4194304_0) (fun _ => rfl)

omit [FloatOps F] [Named F] in
theorem crowK_eq : crowK L = crow (wid L) := by
  unfold crowK crow Rect.part Rect.block
  congr 1 <;> funext a
  · rw [k1_off1_eq]
    match a with
    | 0 => simp [Shape.partIx, Shape.partSize, wid]
    | 1 => simp [Shape.partIx, Shape.partSize]
  · match a with
    | 0 => simp [Shape.partSize]
    | 1 => simp [Shape.partSize]
omit [FloatOps F] [Named F] in
theorem orowK_eq : orowK L = orow (wid L) := by
  unfold orowK orow Rect.part Rect.block
  congr 1 <;> funext a
  · rw [k1_off2_eq]
    match a with
    | 0 => simp [Shape.partIx, Shape.partSize, wid]; omega
  · match a with
    | 0 => simp [Shape.partSize]

omit [FloatOps F] [Named F] in
theorem set_cRowK : (cRowK L).view.set = cRowSet (wid L) := by
  show ((cV.view.slice (crowK L)).reshape S2176 squeezes_S1x2176_S2176.numel_eq).set = (cV.view.slice (crow (wid L))).set
  rw [View.set_reshape]
  exact crowK_eq L ▸ rfl
omit [FloatOps F] [Named F] in
theorem set_nRowK : (nRowK L).view.set = nRowSet (wid L) := by
  show (nV.view.slice (orowK L)).set = (nV.view.slice (orow (wid L))).set
  exact orowK_eq L ▸ rfl
omit [FloatOps F] [Named F] in
theorem set_pRowK : (pRowK L).view.set = pRowSet (wid L) := by
  show (pV.view.slice (orowK L)).set = (pV.view.slice (orow (wid L))).set
  exact orowK_eq L ▸ rfl

abbrev thrV (d : Dev nD) (L : grid1.Coords) : Thread nD τ := V d (cC L) (jC L)

theorem pts_cRowK (f : Buf (Elt F) (cLoc d)) :
    ((cRowK L).view.loc (thrV d L) ↦[(cRowK L).view.set]{fullShare} f : sProp 𝕄) = cLoc d ↦[cRowSet (wid L)]{fullShare} f := by
  rw [set_cRowK]
theorem pts_nRowK (f : Buf (Elt F) (nLoc d)) :
    ((nRowK L).view.loc (thrV d L) ↦[(nRowK L).view.set]{fullShare} f : sProp 𝕄) = nLoc d ↦[nRowSet (wid L)]{fullShare} f := by
  rw [set_nRowK]
theorem pts_pRowK (f : Buf (Elt F) (pLoc d)) :
    ((pRowK L).view.loc (thrV d L) ↦[(pRowK L).view.set]{fullShare} f : sProp 𝕄) = pLoc d ↦[pRowSet (wid L)]{fullShare} f := by
  rw [set_pRowK]

abbrev cell (d : Dev nD) (L : grid1.Coords) (s : DmaSem sig) : GSem nD τ sig := (thrV d L, .dma s)

theorem ownSems0_V :
    (ownSems0 (thrV d L) : sProp 𝕄)
      = iprop(semVal (cell d L cc1_scoped0.sem) 0 ∗ semVal (cell d L cc1_scratch4.sem) 0 ∗ semVal (cell d L cc1_scoped1.sem) 0
          ∗ semVal (cell d L cc1_scoped2.sem) 0
          ∗ bigSep (((((ownCells (thrV d L)).erase (cell d L cc1_scoped0.sem)).erase (cell d L cc1_scratch4.sem)).erase (cell d L cc1_scoped1.sem)).erase
              (cell d L cc1_scoped2.sem)) fun g => semVal g 0) := by
  have mem : ∀ s : DmaSem sig, (SemLoc.dma s : SemLoc sig).isScoped .scVector = true → cell d L s ∈ ownCells (thrV d L) :=
    fun s h => mem_ownCells.mpr ⟨rfl, h⟩
  have ne : ∀ s s' : DmaSem sig, s ≠ s' → cell d L s ≠ cell d L s' := fun s s' h h' => h (by simpa [cell] using h')
  unfold SparseCore.Cfg.ownSems0
  rw [SparseCore.bigSep_erase' (mem cc1_scoped0.sem (by decide)),
    SparseCore.bigSep_erase' (Finset.mem_erase.mpr ⟨ne _ _ (by decide), mem cc1_scratch4.sem (by decide)⟩),
    SparseCore.bigSep_erase' (Finset.mem_erase.mpr ⟨ne _ _ (by decide), Finset.mem_erase.mpr ⟨ne _ _ (by decide), mem cc1_scoped1.sem (by decide)⟩⟩),
    SparseCore.bigSep_erase' (Finset.mem_erase.mpr ⟨ne _ _ (by decide), Finset.mem_erase.mpr ⟨ne _ _ (by decide), Finset.mem_erase.mpr ⟨ne _ _ (by decide),
      mem cc1_scoped2.sem (by decide)⟩⟩⟩)]

abbrev devR (L : grid1.Coords) (b : Ref sig .scVector) : DevRef τ sig := (Proc.scVector (cC L) (jC L)).devRef b

theorem ownBufs_V :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ bigSep (((((ownRefs (τ := τ) (.scVector (cC L) (jC L))).erase (devR L cc1_scratch0)).erase (devR L cc1_scratch1)).erase (devR L cc1_scratch2)).erase
              (devR L cc1_scratch3))
              fun b => iprop(∃ f, ((d, b) : Loc nD τ sig) ↦{fullShare} f)) := by
  have mem : ∀ b : Ref sig .scVector, (devR L b).owner = (devR L cc1_scratch0).owner → devR L b ∈ ownRefs (τ := τ) (.scVector (cC L) (jC L)) :=
    fun b h => SparseCore.Cfg.mem_ownRefs_of_owner (p := Proc.scVector (cC L) (jC L)) (b := devR L b) (h.trans rfl)
  have ne : ∀ b b' : Ref sig .scVector, b ≠ b' → devR L b ≠ devR L b' := fun b b' h h' => h (Proc.devRef_injective _ h')
  unfold SparseCore.Cfg.ownBufs
  refine (SparseCore.bigSep_erase' (mem cc1_scratch0 rfl)).trans ?_
  rw [SparseCore.bigSep_erase' (Finset.mem_erase.mpr ⟨ne _ _ (by decide), mem cc1_scratch1 rfl⟩),
    SparseCore.bigSep_erase' (Finset.mem_erase.mpr ⟨ne _ _ (by decide), Finset.mem_erase.mpr ⟨ne _ _ (by decide), mem cc1_scratch2 rfl⟩⟩),
    SparseCore.bigSep_erase' (Finset.mem_erase.mpr ⟨ne _ _ (by decide), Finset.mem_erase.mpr ⟨ne _ _ (by decide), Finset.mem_erase.mpr ⟨ne _ _ (by decide),
      mem cc1_scratch3 rfl⟩⟩⟩)]

end Tile

end Cert.Proof.Run

end
-- ==== Proof.TileRun.lean ====
/-
  The task's run.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (e : (d : Dev nD) → Buf (Elt F) (eLoc d)) (c : (d : Dev nD) → Buf (Elt F) (cLoc d))
variable (d : Dev nD) (L : grid1.Coords)

/-- The words the index fetch lands are in range. -/
theorem inb_of_range (hc : InRange c) (fs : Buf (Elt F) ((thrV d L).loc cc1_scratch0)) (pay : S2176.Idx → Elt F .i32)
    (hpay : pay = (cRowK L).view.read (Elt F) (c d)) :
    ∀ x, (sV.view.read (Elt F) (View.write (Elt F) sV.view fs pay Finset.univ) x).toNat < S4194304.size gathers_S4194304_S2176.axis := by
  subst hpay; intro x
  rw [View.write_whole_univ]
  simp only [Memref.view_whole, View.read_whole]
  rw [show ∀ j, (cRowK L).view.read (Elt F) (c d) j = c d ((cRowK L).view.emb j) from fun j => (View.read_apply _ _).trans (cast_eq _ _)]
  exact hc d _

theorem credits : ∀ h : S4194304.Gathers 0 S2176, ∑ j, (rV.slice (S2176.rowRect h.axis' j) (S2176.stride_rowRect h.axis' j)).view.dmaCredit
    = rV.view.dmaCredit := by
  intro h
  have one : ∀ j, (rV.slice (S2176.rowRect h.axis' j) (S2176.stride_rowRect h.axis' j)).view.dmaCredit
      = (rV.slice (S2176.rowRect (0 : Fin 1) (0 : Fin 2176)) (S2176.stride_rowRect (0 : Fin 1) (0 : Fin 2176))).view.dmaCredit := fun j => rfl
  have crd : 2176 • (rV.slice (S2176.rowRect (0 : Fin 1) (0 : Fin 2176)) (S2176.stride_rowRect (0 : Fin 1) (0 : Fin 2176))).view.dmaCredit
      = rV.view.dmaCredit := by decide
  rw [Finset.sum_congr rfl fun j _ => one j, Finset.sum_const, Finset.card_univ, Fintype.card_fin]
  exact crd

theorem full_sV (f : Buf (Elt F) (sV.view.loc (thrV d L))) :
    (sV.view.loc (thrV d L) ↦{fullShare} f : sProp 𝕄) = sV.view.loc (thrV d L) ↦[sV.view.set]{fullShare} f := by
  rw [show sV.view.set = Finset.univ from View.set_whole _]
theorem full_rV (f : Buf (Elt F) (rV.view.loc (thrV d L))) :
    (rV.view.loc (thrV d L) ↦{fullShare} f : sProp 𝕄) = rV.view.loc (thrV d L) ↦[rV.view.set]{fullShare} f := by
  rw [show rV.view.set = Finset.univ from View.set_whole _]

/-- What the gather leaves in the row buffer: the flat exponentials at the words of the tile's row of the table. -/
def G (d : Dev nD) (L : grid1.Coords) : Buf (Elt F) (rV.view.loc (thrV d L)) := fun x : S2176.Idx => gath (e d) (c d) (wid L) (x 0).val

theorem cRowK_emb (x : S2176.Idx) : (cRowK L).view.emb x = tblIx (wid L) (x 0).val := by
  have hx : (x 0).val < 2176 := (x 0).isLt
  show (crowK L).emb (Shape.reshapeEquiv squeezes_S1x2176_S2176.numel_eq x) = _
  have hr : Shape.reshapeEquiv squeezes_S1x2176_S2176.numel_eq x = (Fin.cons (⟨0, Nat.one_pos⟩ : Fin 1) x : (⟨2, Matrix.vecCons 1 S2176.size⟩ : Shape).Idx) :=
    Shape.reshapeEquiv_cons_one (d := S2176.size) squeezes_S1x2176_S2176.numel_eq x
  rw [hr]
  funext a
  match a with
  | ⟨0, _⟩ =>
    refine Fin.ext ?_
    show k1_off1 L 0 + 1 * 0 = (wid L).val
    rw [k1_off1_eq]
    show 16 * (L 0).val + (L 1).val + 1 * 0 = 16 * (L 0).val + (L 1).val
    omega
  | ⟨1, _⟩ =>
    refine Fin.ext ?_
    show k1_off1 L 1 + 1 * (x 0).val = (x 0).val % 2176
    rw [k1_off1_eq]
    show 0 + 1 * (x 0).val = (x 0).val % 2176
    omega

theorem symm_val (k : Fin 2176) : (S2176.rowMajor.symm k 0).val = k.val :=
  (Shape.rowMajor_val_one (S2176.rowMajor.symm k)).symm.trans (congrArg Fin.val (Equiv.apply_symm_apply S2176.rowMajor k))

theorem gathered_eq (fr : Buf (Elt F) (rV.view.loc (thrV d L))) (fs : Buf (Elt F) ((thrV d L).loc cc1_scratch0)) (pay : S2176.Idx → Elt F .i32)
    (hpay : pay = (cRowK L).view.read (Elt F) (c d))
    (hin : ∀ x, (sV.view.read (Elt F) (View.write (Elt F) sV.view fs pay Finset.univ) x).toNat < S4194304.size gathers_S4194304_S2176.axis) :
    rV.view.write (Elt F) fr (SparseCore.gatherPayload gathers_S4194304_S2176 (eAllK.view.read (Elt F) (e d))
        (SparseCore.rows (sV.view.read (Elt F) (View.write (Elt F) sV.view fs pay Finset.univ)) rfl hin)) Finset.univ = G e c d L := by
  subst hpay
  rw [View.write_whole_univ]
  funext x
  have hx : (x 0).val < 2176 := (x 0).isLt
  unfold SparseCore.gatherPayload G gath
  have hr : ∀ z, eAllK.view.read (Elt F) (e d) z = e d z := fun z =>
    ((View.read_apply (v := eAllK.view) (Val := Elt F) (e d) z).trans (cast_eq _ _)).trans
      (congrArg (e d) (Rect.emb_unit_full (s := S4194304) inb_S4194304_S4194304_0 z))
  rw [hr]
  have hw : ∀ k : Fin 2176, sV.view.read (Elt F) (View.write (Elt F) sV.view fs ((cRowK L).view.read (Elt F) (c d)) Finset.univ) (S2176.rowMajor.symm k)
      = c d (tblIx (wid L) k.val) := by
    intro k
    rw [View.write_whole_univ]
    simp only [Memref.view_whole, View.read_whole]
    rw [show ∀ j, (cRowK L).view.read (Elt F) (c d) j = c d ((cRowK L).view.emb j) from fun j => (View.read_apply _ _).trans (cast_eq _ _),
      cRowK_emb]
    exact congrArg (fun n : ℕ => c d (tblIx (wid L) n)) (symm_val k)
  refine congrArg (e d) ?_
  funext a
  match a with
  | ⟨0, _⟩ =>
    refine Fin.ext ?_
    have h1 := hin (S2176.rowMajor.symm (x 0))
    have h2 := hw (x 0)
    show (sV.view.read (Elt F) (View.write (Elt F) sV.view fs ((cRowK L).view.read (Elt F) (c d)) Finset.univ) (S2176.rowMajor.symm (x 0))).toNat
      = (c d (tblIx (wid L) (x 0).val)).toNat % 4194304
    rw [h2] at h1 ⊢
    exact (Nat.mod_eq_of_lt h1).symm

/-- The place of lane `y` of a 16-row piece. -/
theorem piece_emb (o : ℕ) (h : ∀ a, ![o] a + ![16] a ≤ S64.size a) (y : S16.Idx) :
    ((Rect.unit (s := S64) ![o] ![16] h).emb y 0).val = o + (y 0).val := by
  show o + 1 * (y 0).val = _
  rw [Nat.one_mul]

/-- Every row of the 64 lies in one of the four 16-row pieces. -/
theorem piece_cover (x : S64.Idx) (h0 : ∀ a, ![0] a + ![16] a ≤ S64.size a) (h1 : ∀ a, ![16] a + ![16] a ≤ S64.size a)
    (h2 : ∀ a, ![32] a + ![16] a ≤ S64.size a) (h3 : ∀ a, ![48] a + ![16] a ≤ S64.size a)
    (w0 w1 w2 w3 : S16.Idx → F .f32) :
    ∃ p ∈ ([⟨Rect.unit (s := S64) ![48] ![16] h3, w3⟩, ⟨Rect.unit (s := S64) ![32] ![16] h2, w2⟩, ⟨Rect.unit (s := S64) ![16] ![16] h1, w1⟩,
      ⟨Rect.unit (s := S64) ![0] ![16] h0, w0⟩] : List (View.Piece (Elt F) S64 .f32)), x ∈ p.1.set := by
  have hx : (x 0).val < 64 := (x 0).isLt
  have mem : ∀ (o : ℕ) (h : ∀ a, ![o] a + ![16] a ≤ S64.size a), o ≤ (x 0).val → (x 0).val < o + 16 → x ∈ (Rect.unit (s := S64) ![o] ![16] h).set := by
    intro o h l u
    rw [Rect.mem_set_unit]
    intro a
    match a with
    | ⟨0, _⟩ => exact ⟨l, u⟩
  by_cases a1 : (x 0).val < 16
  · exact ⟨_, List.mem_cons_of_mem _ (List.mem_cons_of_mem _ (List.mem_cons_of_mem _ List.mem_cons_self)), mem 0 h0 (by omega) (by omega)⟩
  by_cases a2 : (x 0).val < 32
  · exact ⟨_, List.mem_cons_of_mem _ (List.mem_cons_of_mem _ List.mem_cons_self), mem 16 h1 (by omega) (by omega)⟩
  by_cases a3 : (x 0).val < 48
  · exact ⟨_, List.mem_cons_of_mem _ List.mem_cons_self, mem 32 h2 (by omega) (by omega)⟩
  · exact ⟨_, List.mem_cons_self, mem 48 h3 (by omega) (by omega)⟩

/-- A load of 16 lanes of the row buffer at place `o`, lane by lane. -/
theorem load_rV (o : ℕ) (h : ∀ a, ![o] a + ![16] a ≤ S2176.size a) (y : S16.Idx) :
    View.readAt (Elt F) (View.whole cc1_scratch1) (Rect.unit (s := S2176) ![o] ![16] h).toLoadRect (G e c d L) y
      = gath (e d) (c d) (wid L) (o + (y 0).val) := by
  show gath (e d) (c d) (wid L) (o + 1 * (y 0).val) = _
  rw [Nat.one_mul]

/-- Row `x` of the task's 64 rows of a result: its tile is the task's, its lane `x`. -/
theorem orowK_emb_tile (x : S64.Idx) : tileOf ((orowK L).emb x) = wid L ∧ ((orowK L).emb x 0).val % 64 = (x 0).val := by
  have hx : (x 0).val < 64 := (x 0).isLt
  have h : ((orowK L).emb x 0).val = 64 * (wid L).val + (x 0).val := by
    show k1_off2 L 0 + 1 * (x 0).val = _
    rw [k1_off2_eq]
    show 1024 * (L 0).val + 64 * (L 1).val + 1 * (x 0).val = 64 * (16 * (L 0).val + (L 1).val) + (x 0).val
    omega
  refine ⟨Fin.ext ?_, by omega⟩
  show ((orowK L).emb x 0).val / 64 = _
  omega

/-- A whole write of a view, read back at the view's place of `x`. -/
theorem rowWrite {κ : Kind} {sp : Space} {s : Shape} {t : EltTy} {v : View sig κ sp s t} (f : v.ty.Contents (Elt F)) (w : s.Idx → Elt F t) (x : s.Idx) :
    v.writes (Elt F) f [⟨Rect.whole s, w⟩] (v.emb x) = _root_.cast (congrArg (Elt F) v.elt_eq.symm) (w x) := by
  rw [View.writes_singleton]
  have h := View.write_emb_of_mem (v := v.slice (Rect.whole s)) (Val := Elt F) f w (Finset.mem_univ x)
  have he : (v.slice (Rect.whole s)).emb x = v.emb x := congrArg v.emb (Rect.emb_unit_full _ x)
  rw [he] at h
  exact h

set_option maxHeartbeats 4000000 in
theorem tile_body (hF : (K (F := F)).Facts) (hc : InRange c) (fn : Buf (Elt F) (nLoc d)) (fp : Buf (Elt F) (pLoc d))
    (O : CellTallies nD τ sig (HIx 1)) (W : Waits sig (HIx 1)) (hO : ∀ g, O g none = 0) :
    iprop(levAts (K (F := F)).L (K (F := F)).lev ∗ emp
        ∗ (eShPts e d (wid L) ∗ cRowPts c d (wid L) ∗ nRowPts d (wid L) fn ∗ pRowPts d (wid L) fp)
        ∗ scopedBufs (thrV d L) ∗ scopedSems0 (thrV d L) ∗ owes (thrV d L) O W)
      ⊢ wp frame (wpE (defs₀ (F := F)) 𝒱₀ (thrV d L) none) Set.univ
          (cc1__sc_body L eV (Memref.isWhole_whole _) cV (Memref.isWhole_whole _) nV (Memref.isWhole_whole _) pV (Memref.isWhole_whole _)
            sV (Memref.isWhole_whole _) rV (Memref.isWhole_whole _) anV (Memref.isWhole_whole _) apV (Memref.isWhole_whole _)
            cc1_scratch4 cc1_scoped0 cc1_scoped1 cc1_scoped2)
          fun _ => iprop((eShPts e d (wid L) ∗ cRowPts c d (wid L) ∗ nRowPts d (wid L) (negOf (e d) (c d)) ∗ pRowPts d (wid L) (posOf (e d) (c d)))
            ∗ scopedBufs (thrV d L) ∗ scopedSems0 (thrV d L)
            ∗ ∃ W', ⌜∀ p ∈ W', p ∈ W ∨ p.2 = none⌝ ∗ owes (thrV d L) O W') := by
  simp only [cc1__sc_body_eq_skeleton]; unfold cc1__sc_body_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton]
  unfold k1_part1_skel k1_part2_skel k1_part3_skel k1_part4_skel k1_part5_skel k1_part6_skel k1_part7_skel k1_part8_skel k1_part9_skel k1_part10_skel
  rw [(K (F := F)).scopedBufs_V hF d (cC L) (jC L), SparseCore.Cfg.scopedSems0_V (Val := Elt F) d (cC L) (jC L), ownSems0_V, ownBufs_V]
  iintro ⟨#Hlv, -, ⟨He, Hc, Hn, Hp⟩, ⟨⟨%fs, Hs⟩, ⟨%fr, Hr⟩, ⟨%fan, Han⟩, ⟨%fap, Hap⟩, Hbufs⟩, ⟨HsemA, HsemB, HsemC, HsemD, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hc' := (Entails.of_eq (pts_cRowK (F := F) d L _).symm) $$ Hc
  ihave Hn' := (Entails.of_eq (pts_nRowK (F := F) d L _).symm) $$ Hn
  ihave Hp' := (Entails.of_eq (pts_pRowK (F := F) d L _).symm) $$ Hp
  ihave He' := (Entails.of_eq (show (eLoc d ↦{eq' (wid L)} e d : sProp 𝕄) = (eV.view.loc (thrV d L) ↦{eq' (wid L)} e d) from rfl)) $$ He
  ihave Hs' := (Entails.of_eq (show ((thrV d L).loc cc1_scratch0 ↦{fullShare} fs : sProp 𝕄) = (sV.view.loc (thrV d L) ↦{fullShare} fs) from rfl)) $$ Hs
  ihave Hr' := (Entails.of_eq (show ((thrV d L).loc cc1_scratch1 ↦{fullShare} fr : sProp 𝕄) = (rV.view.loc (thrV d L) ↦{fullShare} fr) from rfl)) $$ Hr
  ihave Han' := (Entails.of_eq (show ((thrV d L).loc cc1_scratch2 ↦{fullShare} fan : sProp 𝕄) = (anV.view.loc (thrV d L) ↦{fullShare} fan) from rfl)) $$ Han
  ihave Hap' := (Entails.of_eq (show ((thrV d L).loc cc1_scratch3 ↦{fullShare} fap : sProp 𝕄) = (apV.view.loc (thrV d L) ↦{fullShare} fap) from rfl)) $$ Hap
  sl_exec
  ihave Hes := (pointsTo_split_subset (q := eq' (wid L)) (f := e d) (S := Finset.univ) (Finset.subset_univ eAllK.view.set)).1 $$ He'
  icases Hes with ⟨Hes, Her⟩
  ihave Hr'' := (Entails.of_eq (full_rV d L _)) $$ Hr'
  ihave Hs'' := (Entails.of_eq (full_sV d L _)) $$ Hs'
  iapply (SparseCore.wp_indirectGatherLocal countersEmb 𝒱₀ (thrV d L) none (hg := gathers_S4194304_S2176) (default : HIx 1)
      rV.view.dmaCredit (credits _) (by decide) (inb_of_range c d L hc fs _ rfl)) $$ [Hes Hr'' Hs'' HsemB]
  · isplitl [Hes]; · iexact Hes
    isplitl [Hr'']; · iexact Hr''
    isplitl [Hs'']; · iexact Hs''
    iexact HsemB
  iintro Hfl
  sl_exec
  iapply (Transfers.wp_waitLocalO countersEmb 𝒱₀ (thrV d L) none (default : HIx 1) (rfl : rV.view.dmaCredit = _)) $$ [Hfl HO]
  · isplitl [Hfl]; · iexact Hfl
    isplitl [HO]; · iexact HO
    iapply (Transfers.MayWaits.elim (SemLoc.dma cc1_scratch4.sem)) $$ Hmw
  iintro ⟨⟨Hr', Hes, Hs'⟩, HsemB, HO⟩
  ihave He' := (pointsTo_split_subset (q := eq' (wid L)) (f := e d) (S := Finset.univ) (Finset.subset_univ eAllK.view.set)).2 $$ [Hes Her]; · isplitl [Hes] <;> iassumption
  ihave Hr3 := (Entails.of_eq (full_rV d L _).symm) $$ Hr'
  ihave Hs3 := (Entails.of_eq (full_sV d L _).symm) $$ Hs'
  ihave Hr4 := (Entails.of_eq (congrArg (fun f => (rV.view.loc (thrV d L) ↦{fullShare} f : sProp 𝕄)) (gathered_eq e c d L fr fs _ rfl _))) $$ Hr3
  sl_exec
  have hn : ∀ x : S64.Idx, tile_body.sl.dma148 e c d L fan x = sumTo (lane (gath (e d) (c d) (wid L)) (x 0).val) 32 := by
    intro x
    sl_unfold_words
    refine View.read_writes_apply_of_pieces (Val := Elt F) (s := S64) (e := .f32) anV.view _ (fun y : S64.Idx => (sumTo (lane (gath (e d) (c d) (wid L)) (y 0).val) 32 : F .f32)) _ ?_ x ?_
    · simp only [List.forall_mem_cons]
      refine ⟨?_, ?_, ?_, ?_, by simp⟩
      all_goals
        intro y
        simp only [k1_pay1, k1_pay2, k1_pay3, k1_pay4, k1_pay5, k1_pay6, k1_pay7, k1_pay8, k1_pay9, k1_pay10, k1_pay11, k1_pay12, k1_pay13, k1_pay14, k1_pay15, k1_pay16,
          k1_pay17, k1_pay18, k1_pay19, k1_pay20, k1_pay21, k1_pay22, k1_pay23, shapeCast_self, addf, load_rV, sumTo, lane]
        simp only [piece_emb]
        generalize gath (e d) (c d) (wid L) = g
        repeat (first | exact congrArg g (by omega) | refine congrArg₂ FloatOps.addf ?_ ?_)
    · exact piece_cover x _ _ _ _ _ _ _ _
  have hp : ∀ x : S64.Idx, tile_body.sl.dma148_1 e c d L fap x = lane (gath (e d) (c d) (wid L)) (x 0).val 0 := by
    intro x
    sl_unfold_words
    refine View.read_writes_apply_of_pieces (Val := Elt F) (s := S64) (e := .f32) apV.view _ (fun y : S64.Idx => (lane (gath (e d) (c d) (wid L)) (y 0).val 0 : F .f32)) _ ?_ x ?_
    · simp only [List.forall_mem_cons]
      refine ⟨?_, ?_, ?_, ?_, by simp⟩
      all_goals
        intro y
        simp only [k1_pay1, k1_pay2, k1_pay3, k1_pay4, k1_pay5, k1_pay6, k1_pay7, k1_pay8, k1_pay9, k1_pay10, k1_pay11, k1_pay12, k1_pay13, k1_pay14, k1_pay15, k1_pay16,
          k1_pay17, k1_pay18, k1_pay19, k1_pay20, k1_pay21, k1_pay22, k1_pay23, shapeCast_self, load_rV, lane]
        simp only [piece_emb]
        generalize gath (e d) (c d) (wid L) = g
        exact congrArg g (by omega)
    · exact piece_cover x _ _ _ _ _ _ _ _
  have hN := orowK_emb_tile L
  have en : ∀ i ∈ (nRowK L).view.set, (nRowK L).view.writes (Elt F) fn [⟨Rect.whole S64, tile_body.sl.dma148 e c d L fan⟩] i = negOf (e d) (c d) i := by
    intro i hi
    obtain ⟨x, -, rfl⟩ := Finset.mem_map.mp hi
    refine (rowWrite (v := (nRowK L).view) fn _ x).trans ?_
    refine (cast_eq _ _).trans ((hn x).trans ?_)
    show _ = sumTo (lane (gath (e d) (c d) (tileOf ((orowK L).emb x))) (((orowK L).emb x 0).val % 64)) 32
    rw [(hN x).1, (hN x).2]
  have ep : ∀ i ∈ (pRowK L).view.set, (pRowK L).view.writes (Elt F) fp [⟨Rect.whole S64, tile_body.sl.dma148_1 e c d L fap⟩] i = posOf (e d) (c d) i := by
    intro i hi
    obtain ⟨x, -, rfl⟩ := Finset.mem_map.mp hi
    refine (rowWrite (v := (pRowK L).view) fp _ x).trans ?_
    refine (cast_eq _ _).trans ((hp x).trans ?_)
    show _ = lane (gath (e d) (c d) (tileOf ((orowK L).emb x))) (((orowK L).emb x 0).val % 64) 0
    rw [(hN x).1, (hN x).2]
  sl_step
  ihave Hn := (Entails.of_eq ((pointsTo_congr en).trans (pts_nRowK (F := F) d L _))) $$ Hn'
  ihave Hp := (Entails.of_eq ((pointsTo_congr ep).trans (pts_pRowK (F := F) d L _))) $$ Hp'
  ihave Hc := (Entails.of_eq (pts_cRowK (F := F) d L _)) $$ Hc'
  isplitl [He' Hc Hn Hp]
  · isplitl [He']; · iexact He'
    isplitl [Hc]; · iexact Hc
    isplitl [Hn]; · iexact Hn
    iexact Hp
  isplitl [Hs3 Hr4 Han' Hap' Hbufs]
  · isplitl [Hs3]; · iexists _; iexact Hs3
    isplitl [Hr4]; · iexists _; iexact Hr4
    isplitl [Han']; · iexists _; iexact Han'
    isplitl [Hap']; · iexists _; iexact Hap'
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr; swap; · iexact HO
  ipureintro
  intro p hp'
  simp only [Finset.mem_insert] at hp'
  rcases hp' with rfl | rfl | rfl | rfl | h
  · exact .inr rfl
  · exact .inr rfl
  · exact .inr rfl
  · exact .inr rfl
  · exact .inl h

end Cert.Proof.Run

end
-- ==== Proof.Call.lean ====
/-
  The SparseCore call as the launch sees it: what the handshakes carry, each task's obligation from its run, and how the
  call's four buffers split into the 32 tasks' pieces and come back together.
-/
module

public import proofs.«01_k».proof.Proof.TileRun

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (e : (d : Dev nD) → Buf (Elt F) (eLoc d)) (c : (d : Dev nD) → Buf (Elt F) (cLoc d))
variable (fn : (d : Dev nD) → Buf (Elt F) (nLoc d)) (fp : (d : Dev nD) → Buf (Elt F) (pLoc d))

/-! ## What the handshakes carry -/

/-- The number of the tile at vector subcore `i` of SparseCore `a`. -/
def wOf (a : Fin 2) (i : Fin 16) : Fin 32 := ⟨16 * a.val + i.val, by have := a.isLt; have := i.isLt; omega⟩

/-- Tile `w`'s pieces of the four buffers, the two results at contents `gn`, `gp`. -/
abbrev tilePts (d : Dev nD) (w : Fin 32) (gn : Buf (Elt F) (nLoc d)) (gp : Buf (Elt F) (pLoc d)) : sProp 𝕄 :=
  iprop(eShPts e d w ∗ cRowPts c d w ∗ nRowPts d w gn ∗ pRowPts d w gp)

/-- SparseCore `a`'s pieces: its 16 tiles'. -/
abbrev corePts (d : Dev nD) (a : Fin 2) (gn : Buf (Elt F) (nLoc d)) (gp : Buf (Elt F) (pLoc d)) : sProp 𝕄 :=
  bigSep Finset.univ fun i : Fin 16 => tilePts e c d (wOf a i) gn gp

def P : (K (F := F)).Pay (nD := nD) (Val := Elt F) (Name := ℕ) (U := UU) where
  st := fun q d a => match q with | 0 => corePts e c d (Fin.cast nCore_zero a) (fn d) (fp d)
  dn := fun q d a => match q with | 0 => corePts e c d (Fin.cast nCore_zero a) (negOf (e d) (c d)) (posOf (e d) (c d))
  go := fun q d a i => match q with
    | 0 => tilePts e c d (wOf (Fin.cast nCore_zero a) (Fin.cast nSub_zero i)) (fn d) (fp d)
  td := fun q d a i => match q with
    | 0 => tilePts e c d (wOf (Fin.cast nCore_zero a) (Fin.cast nSub_zero i)) (negOf (e d) (c d)) (posOf (e d) (c d))
  x := fun _ _ => iprop(emp)

instance P_storable : (P e c fn fp).IsStorable where
  st q d a := match q with
    | 0 => (inferInstance : BI.Storable (upEmb : UEmb _ 𝕄) (corePts e c d (Fin.cast nCore_zero a) (fn d) (fp d)))
  dn q d a := match q with
    | 0 => (inferInstance : BI.Storable (upEmb : UEmb _ 𝕄) (corePts e c d (Fin.cast nCore_zero a) (negOf (e d) (c d)) (posOf (e d) (c d))))
  go q d a i := match q with
    | 0 => (inferInstance : BI.Storable (upEmb : UEmb _ 𝕄)
      (tilePts e c d (wOf (Fin.cast nCore_zero a) (Fin.cast nSub_zero i)) (fn d) (fp d)))
  td q d a i := match q with
    | 0 => (inferInstance : BI.Storable (upEmb : UEmb _ 𝕄)
      (tilePts e c d (wOf (Fin.cast nCore_zero a) (Fin.cast nSub_zero i)) (negOf (e d) (c d)) (posOf (e d) (c d))))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          eV (Memref.isWhole_whole _) cV (Memref.isWhole_whole _) nV (Memref.isWhole_whole _) pV (Memref.isWhole_whole _)
          sV (Memref.isWhole_whole _) rV (Memref.isWhole_whole _) anV (Memref.isWhole_whole _) apV (Memref.isWhole_whole _)
          cc1_scratch4 cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hc : InRange c) : (K (F := F)).TileObl (D (F := F)) 𝒱 (P e c fn fp) v₀ 0 := by
  intro d a i O W hO _ _
  simp only [show (P e c fn fp).ox = fun _ _ => 0 from rfl, add_zero]
  have hci : ((K (F := F)).core 0 a).val < grid1.bound 0 ∧ ((K (F := F)).sub 0 i).val < grid1.bound 1 := ⟨a.isLt, i.isLt⟩
  change _ ⊢ wp _ _ _ (Pipeline.liftProg (defs₀ (F := F) (.scVector ((K (F := F)).core 0 a) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body e c d (coordsV ⟨_, hci.1⟩ ⟨_, hci.2⟩) hF hc (fn d) (fp d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P e c fn fp) 0 := by
  intro d a
  show corePts e c d (Fin.cast nCore_zero a) (fn d) (fp d) ⊢ |={Set.univ}=> iprop(
      (bigSep Finset.univ fun i : Fin ((K (F := F)).nSub 0) => tilePts e c d (wOf (Fin.cast nCore_zero a) (Fin.cast nSub_zero i)) (fn d) (fp d))
      ∗ ((bigSep Finset.univ fun i : Fin ((K (F := F)).nSub 0) => tilePts e c d (wOf (Fin.cast nCore_zero a) (Fin.cast nSub_zero i)) (negOf (e d) (c d)) (posOf (e d) (c d)))
          -∗ corePts e c d (Fin.cast nCore_zero a) (negOf (e d) (c d)) (posOf (e d) (c d))))
  rw [bigSep_tasks (F := F) (fun i => tilePts e c d (wOf (Fin.cast nCore_zero a) i) (fn d) (fp d)),
    bigSep_tasks (F := F) (fun i => tilePts e c d (wOf (Fin.cast nCore_zero a) i) (negOf (e d) (c d)) (posOf (e d) (c d)))]
  iintro H; imodintro
  isplitl [H]; · iexact H
  iintro H; iexact H

/-! ## The four buffers whole are the 32 tiles' pieces -/

theorem cRowSet_eq (w : Fin 32) : cRowSet w = (crow w).set := by
  show ((View.whole (main_c_scv : Ref sig .scVector)).slice (crow w)).set = _
  rw [View.set_slice]; exact Finset.map_refl
theorem nRowSet_eq (w : Fin 32) : nRowSet w = (orow w).set := by
  show ((View.whole (main_v5_0_scv : Ref sig .scVector)).slice (orow w)).set = _
  rw [View.set_slice]; exact Finset.map_refl
theorem pRowSet_eq (w : Fin 32) : pRowSet w = (orow w).set := by
  show ((View.whole (main_v5_1_scv : Ref sig .scVector)).slice (orow w)).set = _
  rw [View.set_slice]; exact Finset.map_refl

theorem cPts_rows (d : Dev nD) (f : Buf (Elt F) (cLoc d)) :
    (cLoc d ↦{fullShare} f : sProp 𝕄) = bigSep Finset.univ fun w : Fin 32 => cLoc d ↦[cRowSet w]{fullShare} f := by
  rw [← pointsTo_biUnion Finset.univ (ℓ := cLoc d) cRowSet (fun i _ j _ h => by rw [cRowSet_eq, cRowSet_eq]; exact Rect.part_disjoint cdiv h),
    (Finset.biUnion_congr rfl fun i _ => cRowSet_eq i).trans (Rect.biUnion_part cdiv)]
theorem nPts_rows (d : Dev nD) (f : Buf (Elt F) (nLoc d)) :
    (nLoc d ↦{fullShare} f : sProp 𝕄) = bigSep Finset.univ fun w : Fin 32 => nLoc d ↦[nRowSet w]{fullShare} f := by
  rw [← pointsTo_biUnion Finset.univ (ℓ := nLoc d) nRowSet (fun i _ j _ h => by rw [nRowSet_eq, nRowSet_eq]; exact Rect.part_disjoint odiv h),
    (Finset.biUnion_congr rfl fun i _ => nRowSet_eq i).trans (Rect.biUnion_part odiv)]
theorem pPts_rows (d : Dev nD) (f : Buf (Elt F) (pLoc d)) :
    (pLoc d ↦{fullShare} f : sProp 𝕄) = bigSep Finset.univ fun w : Fin 32 => pLoc d ↦[pRowSet w]{fullShare} f := by
  rw [← pointsTo_biUnion Finset.univ (ℓ := pLoc d) pRowSet (fun i _ j _ h => by rw [pRowSet_eq, pRowSet_eq]; exact Rect.part_disjoint odiv h),
    (Finset.biUnion_congr rfl fun i _ => pRowSet_eq i).trans (Rect.biUnion_part odiv)]
theorem ePts_shares (d : Dev nD) (f : Buf (Elt F) (eLoc d)) :
    (eLoc d ↦{fullShare} f : sProp 𝕄) = bigSep Finset.univ fun w : Fin 32 => eLoc d ↦{eq' w} f :=
  ShareLeaves.pointsTo_leaves Finset.univ f 5 fullShare

/-- The 32 tiles, by SparseCore and vector subcore. -/
theorem bigSep_tiles (Φ : Fin 32 → sProp 𝕄) :
    bigSep Finset.univ Φ = bigSep Finset.univ fun a : Fin 2 => bigSep Finset.univ fun i : Fin 16 => Φ (wOf a i) := by
  rw [bigSep_univ_equiv (finProdFinEquiv (m := 2) (n := 16)) Φ, bigSep_univ_prod]
  refine bigSep_congr fun a _ => bigSep_congr fun i _ => congrArg Φ (Fin.ext ?_)
  show i.val + 16 * a.val = 16 * a.val + i.val
  omega

/-- The two SparseCores' pieces are the four buffers whole. -/
theorem cores_whole (d : Dev nD) (gn : Buf (Elt F) (nLoc d)) (gp : Buf (Elt F) (pLoc d)) :
    (bigSep Finset.univ fun a : Fin 2 => corePts e c d a gn gp)
      = iprop((eLoc d ↦{fullShare} e d) ∗ (cLoc d ↦{fullShare} c d) ∗ (nLoc d ↦{fullShare} gn) ∗ (pLoc d ↦{fullShare} gp)) := by
  rw [ePts_shares, cPts_rows, nPts_rows, pPts_rows, ← bigSep_sep', ← bigSep_sep', ← bigSep_sep', bigSep_tiles]

theorem st_whole (d : Dev nD) : (bigSep Finset.univ fun a : Fin ((K (F := F)).nCore 0) => (P e c fn fp).st 0 d a)
    = iprop((eLoc d ↦{fullShare} e d) ∗ (cLoc d ↦{fullShare} c d) ∗ (nLoc d ↦{fullShare} fn d) ∗ (pLoc d ↦{fullShare} fp d)) :=
  (bigSep_cores (F := F) fun a => corePts e c d a (fn d) (fp d)).trans (cores_whole e c d _ _)
theorem dn_whole (d : Dev nD) : (bigSep Finset.univ fun a : Fin ((K (F := F)).nCore 0) => (P e c fn fp).dn 0 d a)
    = iprop((eLoc d ↦{fullShare} e d) ∗ (cLoc d ↦{fullShare} c d) ∗ (nLoc d ↦{fullShare} negOf (e d) (c d)) ∗ (pLoc d ↦{fullShare} posOf (e d) (c d))) :=
  (bigSep_cores (F := F) fun a => corePts e c d a (negOf (e d) (c d)) (posOf (e d) (c d))).trans (cores_whole e c d _ _)

end Cert.Proof.Run

end
-- ==== Proof.Chain.lean ====
/-
  The TensorCore's buffers from step to step of @main: the reshapes, the two TensorCore calls and the SparseCore call
  between them.
-/
module

public import proofs.«01_k».proof.Proof.Segs
public import proofs.«01_k».proof.Proof.Call

@[expose] public section

noncomputable section

namespace Cert.Proof.Run

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-! ## The operations on the host's buffers -/

/-- The index table @main carries. -/
def table : S32x2176.Idx → BitVec 32 := fun i => lit0 (S32x2176.rowMajor i)

abbrev opC : HloOp τ sig (Elt F) := StableHlo.nullary main_c (table : S32x2176.Idx → BitVec 32)
abbrev op0 : HloOp τ sig (Elt F) := StableHlo.reshape main_arg0 main_v0 (rfl : (.f32 : EltTy) = .f32) shapeCasts_S1x2048x768_S2048x768
abbrev op1 : HloOp τ sig (Elt F) := StableHlo.reshape main_arg1 main_v1 (rfl : (.f32 : EltTy) = .f32) shapeCasts_S1x2048x768_S2048x768
abbrev op2 : HloOp τ sig (Elt F) := StableHlo.reshape main_arg2 main_v2 (rfl : (.f32 : EltTy) = .f32) shapeCasts_S_S1
abbrev op4 : HloOp τ sig (Elt F) := StableHlo.reshape main_v3 main_v4 (rfl : (.f32 : EltTy) = .f32) shapeCasts_S16x2048x128_S4194304
abbrev op7 : HloOp τ sig (Elt F) := StableHlo.reshape main_v6 main_v7 (rfl : (.f32 : EltTy) = .f32) shapeCasts_S1x1_S_

/-! ## The valuations -/

/-- The buffers at launch. -/
def V0 (d : Dev nD) : Valuation τ sig (Elt F) := fun b => m (d, b)
/-- After the table and the first three reshapes. -/
def VA (d : Dev nD) : Valuation τ sig (Elt F) := (op2 (F := F)).result ((op1 (F := F)).result ((op0 (F := F)).result ((opC (F := F)).result (V0 m d))))
/-- The buffers as a TensorCore's references read them. -/
abbrev refs (W : Dev nD → Valuation τ sig (Elt F)) : (c : Dev nD) → (b : Ref sig .tc) → Buf (Elt F) ((c : Thread nD τ).loc b) := fun c b => W c b
/-- The exponentials the first call writes. -/
def gramOut (d : Dev nD) : S16x2048x128.Idx → F .f32 := (datG (refs (VA m)) d).arrAt 2 cfg0.N
def VB (d : Dev nD) : Valuation τ sig (Elt F) := Function.update (VA m d) (Proc.devRef .tc main_v3) (gramOut m d)
/-- After they are laid flat. -/
def VC (d : Dev nD) : Valuation τ sig (Elt F) := (op4 (F := F)).result (VB m d)
/-- The flat exponentials and the table, as the SparseCore call finds them. -/
def flat (d : Dev nD) : S4194304.Idx → F .f32 := VC m d main_v4
def words (d : Dev nD) : S32x2176.Idx → BitVec 32 := VC m d main_c
/-- After the SparseCore call. -/
def VD (d : Dev nD) : Valuation τ sig (Elt F) :=
  Function.update (Function.update (VC m d) (Proc.devRef .tc main_v5_0) (negOf (flat m d) (words m d)))
    (Proc.devRef .tc main_v5_1) (posOf (flat m d) (words m d))
/-- The number the second call writes. -/
def lossOut (d : Dev nD) : S1x1.Idx → F .f32 := (datF (refs (VD m)) d).arrAt 3 cfg2.N
def VE (d : Dev nD) : Valuation τ sig (Elt F) := Function.update (VD m d) (Proc.devRef .tc main_v6) (lossOut m d)
def VF (d : Dev nD) : Valuation τ sig (Elt F) := (op7 (F := F)).result (VE m d)

/-! ## The buffers held -/

/-- A TensorCore's unscoped buffers. -/
def held0 : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) held0 W := by
  unfold unscopedBufs StableHlo.held held0 StableHlo.tcRefs
  rw [Finset.filter_map, BI.bigSep_map]
  rfl

theorem hC : (opC (F := F)).bufs ⊆ held0 := show ({Proc.devRef .tc main_c} : Finset (DevRef τ sig)) ⊆ held0 by decide
theorem h0 : (op0 (F := F)).bufs ⊆ held0 := show ({Proc.devRef .tc main_arg0, Proc.devRef .tc main_v0} : Finset (DevRef τ sig)) ⊆ held0 by decide
theorem h1 : (op1 (F := F)).bufs ⊆ held0 := show ({Proc.devRef .tc main_arg1, Proc.devRef .tc main_v1} : Finset (DevRef τ sig)) ⊆ held0 by decide
theorem h2 : (op2 (F := F)).bufs ⊆ held0 := show ({Proc.devRef .tc main_arg2, Proc.devRef .tc main_v2} : Finset (DevRef τ sig)) ⊆ held0 by decide
theorem h4 : (op4 (F := F)).bufs ⊆ held0 := show ({Proc.devRef .tc main_v3, Proc.devRef .tc main_v4} : Finset (DevRef τ sig)) ⊆ held0 by decide
theorem h7 : (op7 (F := F)).bufs ⊆ held0 := show ({Proc.devRef .tc main_v6, Proc.devRef .tc main_v7} : Finset (DevRef τ sig)) ⊆ held0 by decide

/-- The four buffers of the SparseCore call. -/
def four : Finset (DevRef τ sig) := {Proc.devRef .tc main_v4, Proc.devRef .tc main_c, Proc.devRef .tc main_v5_0, Proc.devRef .tc main_v5_1}

theorem four_held : four ⊆ held0 := by decide

/-- The held buffers are the four and the rest. -/
theorem held_four (d : Dev nD) (W : Valuation τ sig (Elt F)) : (StableHlo.held (T d) held0 W : sProp 𝕄)
    = iprop(((eLoc d ↦{fullShare} W main_v4) ∗ (cLoc d ↦{fullShare} W main_c) ∗ (nLoc d ↦{fullShare} W main_v5_0) ∗ (pLoc d ↦{fullShare} W main_v5_1))
        ∗ StableHlo.held (T d) (held0 \ four) W) := by
  unfold StableHlo.held
  rw [SparseCore.bigSep_sdiff_split' four_held]
  congr 1
  unfold four
  rw [SparseCore.bigSep_insert' (by decide), SparseCore.bigSep_insert' (by decide), SparseCore.bigSep_insert' (by decide), bigSep_singleton]

/-- The rest at the two valuations. -/
theorem rest_eq (d : Dev nD) : (StableHlo.held (T d) (held0 \ four) (VC m d) : sProp 𝕄) = StableHlo.held (T d) (held0 \ four) (VD m d) := by
  unfold StableHlo.held
  refine bigSep_congr fun b hb => ?_
  have hb' := (Finset.mem_sdiff.mp hb).2
  have e0 : b ≠ Proc.devRef .tc main_v5_0 := fun h => hb' (h ▸ by decide)
  have e1 : b ≠ Proc.devRef .tc main_v5_1 := fun h => hb' (h ▸ by decide)
  unfold VD
  rw [Function.update_of_ne e1, Function.update_of_ne e0]

theorem VD_e (d : Dev nD) : VD m d main_v4 = flat m d := by
  unfold VD; rw [Function.update_of_ne (by decide), Function.update_of_ne (by decide)]; rfl
theorem VD_c (d : Dev nD) : VD m d main_c = words m d := by
  unfold VD; rw [Function.update_of_ne (by decide), Function.update_of_ne (by decide)]; rfl
theorem VD_n (d : Dev nD) : VD m d main_v5_0 = negOf (flat m d) (words m d) := by
  unfold VD; rw [Function.update_of_ne (by decide), Function.update_self]
theorem VD_p (d : Dev nD) : VD m d main_v5_1 = posOf (flat m d) (words m d) := by
  unfold VD; rw [Function.update_self]

/-! ## What the steps leave -/

theorem words_eq (d : Dev nD) : words m d = table := by
  unfold words VC VB VA
  rw [StableHlo.reshape_result_ne _ _ _ _ _ (by decide), Function.update_of_ne (by decide),
    StableHlo.reshape_result_ne _ _ _ _ _ (by decide), StableHlo.reshape_result_ne _ _ _ _ _ (by decide),
    StableHlo.reshape_result_ne _ _ _ _ _ (by decide), StableHlo.nullary_result]
  all_goals decide

/-- A buffer no step writes is at its launch contents at the end. -/
theorem VF_kept (d : Dev nD) (b : Ref sig .tc) (hb : b ∈ [main_arg0, main_arg1, main_arg2, main_arg3]) : VF m d b = m ((SparseCore.T d).loc b) := by
  have e : ∀ x ∈ [main_c, main_v0, main_v1, main_v2, main_v3, main_v4, main_v5_0, main_v5_1, main_v6, main_v7], b ≠ x := by
    revert b; decide
  have e' : ∀ x ∈ [main_v3, main_v5_0, main_v5_1, main_v6], (Proc.devRef .tc b : DevRef τ sig) ≠ Proc.devRef .tc x := by
    clear e; revert b; decide
  unfold VF VE VD VC VB VA
  rw [StableHlo.reshape_result_ne (h := e _ (by decide)), Function.update_of_ne (e' _ (by decide)),
    Function.update_of_ne (e' _ (by decide)), Function.update_of_ne (e' _ (by decide)),
    StableHlo.reshape_result_ne (h := e _ (by decide)), Function.update_of_ne (e' _ (by decide)),
    StableHlo.reshape_result_ne (h := e _ (by decide)), StableHlo.reshape_result_ne (h := e _ (by decide)),
    StableHlo.reshape_result_ne (h := e _ (by decide)), StableHlo.nullary_result_ne (h := e _ (by decide))]
  rfl

end Cert.Proof.Run

end
-- ==== Proof.Launch.lean ====
/-
  The run of the whole program: from any launch memory it halts with @main's result at the value the steps give, the
  arguments untouched, and every semaphore at zero.
-/
module

public import proofs.«01_k».proof.Proof.Chain

@[expose] public section

noncomputable section

namespace Cert.Proof.Run

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch's ghost state -/

/-- The pipelines' configurations. -/
abbrev pins : Fin 2 → Pipeline.Cfg sig Λ₀ := Pipeline.pin (pcfgs (F := F)) adm

/-- What the launch makes: the handshakes', and the two pipelines'. -/
def u₀ : UU := (initOf (K (F := F)).hsCells (K (F := F)).hsToks,
  (initOf (Pipeline.cells (nD := nD) (τ := τ) (pins (F := F)) cellOf_inj) (Pipeline.launchToks (pins (F := F)) cellOf_inj), 1))

/-- What device `d`'s TensorCore is given of it: each pipeline's cells and tokens. -/
def ghost (d : Dev nD) : sProp 𝕄 :=
  iprop((bigSep Finset.univ fun p => Pipeline.cellsGhost (pins (F := F)) EP p d)
    ∗ bigSep Finset.univ fun p => Pipeline.toksInit (pins (F := F)) EP p d)

/-- The SparseCore call's handshakes at the values the steps before leave. -/
abbrev PP := P (flat m) (words m) (fun d => VC m d main_v5_0) (fun d => VC m d main_v5_1)

omit [FloatOps F] [Named F] in
theorem all_emp {I : Type} (s : Finset I) : (bigSep s fun _ => iprop(emp)) = (iprop(emp) : sProp 𝕄) := bigSep_emp_const s

/-- Two pipelines, one by one. -/
theorem both (Φ : Fin 2 → sProp 𝕄) : bigSep Finset.univ Φ = iprop(Φ 0 ∗ Φ 1) := BI.bigSep_fin_two Φ

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HR⟩
  ihave H := (own_pair_emb embR (initOf (Pipeline.cells (nD := nD) (τ := τ) (pins (F := F)) cellOf_inj) (Pipeline.launchToks (pins (F := F)) cellOf_inj)) (1 : Counters)) $$ HR
  icases H with ⟨HP, -⟩
  ihave HP := (show (BI.own ((Emb.trans Emb.inl embR) (initOf (Pipeline.cells (nD := nD) (τ := τ) (pins (F := F)) cellOf_inj) (Pipeline.launchToks (pins (F := F)) cellOf_inj))) : sProp 𝕄)
    ⊢ BI.own (EP (initOf (Pipeline.cells (nD := nD) (τ := τ) (pins (F := F)) cellOf_inj) (Pipeline.launchToks (pins (F := F)) cellOf_inj))) from .rfl) $$ HP
  imod (Pipeline.fund_ghost (pins (F := F)) EP cellOf_inj) $$ HP with ⟨Hc, Ht⟩
  imodintro
  isplitl [HH]; · iexact HH
  isplitl [Hc Ht]
  · unfold ghost
    rw [bigSep_sep']
    isplitl [Hc] <;> iassumption
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), all_emp]
  iempintro

/-! ## @main -/

abbrev sG : Pipeline.RegionSeg (pcfgs (F := F)) adm (pdats (refs (VA m))) none defs₀ 𝒱₀ (K (F := F)).L (K (F := F)).lev 0 :=
  segG (refs (VA m)) (refs (VB m)) (fun c => Function.update_self ..)
    (fun c b hb => Function.update_of_ne (StableHlo.devRef_ne_of_ne hb) ..)
abbrev sF : Pipeline.RegionSeg (pcfgs (F := F)) adm (pdats (refs (VD m))) none defs₀ 𝒱₀ (K (F := F)).L (K (F := F)).lev 1 :=
  segF (refs (VD m)) (refs (VE m)) (fun c => Function.update_self ..)
    (fun c b hb => Function.update_of_ne (StableHlo.devRef_ne_of_ne hb) ..)

/-- A TensorCore call as the pipelines' program has it. -/
def callOp (p : Fin 2) : Prog (TpuEff nD τ sig (Elt F) (ΛP (F := F)) .tc) PUnit := Prog.lift (.customCall (Pipeline.entry p) ())

theorem callOp_lift (p : Fin 2) : SparseCore.liftProg (Q := 1) (callOp (F := F) p) = Prog.lift (.customCall (SparseCore.inner (Pipeline.entry p)) ()) := rfl

set_option backward.isDefEq.respectTransparency.types false in
/-- A TensorCore call of pipeline `p`, over the launch's body table. -/
theorem wp_call {V : (c : Dev nD) → (b : Ref sig .tc) → Buf (Elt F) ((c : Thread nD τ).loc b)} [∀ e, Nonempty (Elt F e)] {p : Fin 2}
    (R : Pipeline.RegionSeg (pcfgs (F := F)) adm (pdats V) none defs₀ 𝒱₀ (K (F := F)).L (K (F := F)).lev p) (d : Dev nD) (Q : PUnit → sProp 𝕄) :
    iprop((iprop(boundary (SparseCore.T d) ∗ R.post d) -∗ Q ⟨⟩) ∗ boundary (SparseCore.T d) ∗ R.pre d ∗ levAts (K (F := F)).L (K (F := F)).lev
        ∗ Pipeline.cellsGhost (pins (F := F)) EP p d ∗ Pipeline.toksInit (pins (F := F)) EP p d)
      ⊢ wp frame (wpE ((K (F := F)).defs (D (F := F))) 𝒱 (SparseCore.T d) none) Set.univ
          (Prog.lift (.customCall (SparseCore.inner (Pipeline.entry p)) ())) Q := by
  have hinj : Function.Injective (Pipeline.cellOf (nD := nD) (τ := τ) (pins (F := F))) := cellOf_inj
  have lifted := (K (F := F)).wp_liftProg (D (F := F)) 𝒱 (SparseCore.T d) Set.univ none (callOp p) Q
  rw [callOp_lift] at lifted
  refine BIBase.Entails.trans ?_ lifted
  have key := Pipeline.RegionSeg.wp (pcfgs (F := F)) adm (pdats V) none hinj EP defs₀ 𝒱₀ _ _ R d none
    (fun u h => (Option.not_mem_none u h).elim) (fun _ => .ret ⟨⟩) Q
  refine BIBase.Entails.trans ?_ key
  iintro ⟨Hk, H⟩
  isplitl [Hk]
  · iintro H
    rw [wp_ret]; imodintro
    iapply Hk $$ H
  · iexact H

set_option backward.isDefEq.respectTransparency.types false in
theorem wp_first [∀ e, Nonempty (Elt F e)] (d : Dev nD) (Q : PUnit → sProp 𝕄) :
    iprop((iprop(boundary (SparseCore.T d) ∗ unscopedBufs d (refs (VB m) d) ∗ owesBefore (F := F) d 0) -∗ Q ⟨⟩)
        ∗ boundary (SparseCore.T d) ∗ iprop(unscopedBufs d (refs (VA m) d) ∗ owesBefore (F := F) d 0) ∗ levAts (K (F := F)).L (K (F := F)).lev
        ∗ Pipeline.cellsGhost (pins (F := F)) EP 0 d ∗ Pipeline.toksInit (pins (F := F)) EP 0 d)
      ⊢ wp frame (wpE ((K (F := F)).defs (D (F := F))) 𝒱 (SparseCore.T d) none) Set.univ
          (Prog.lift (.customCall (SparseCore.inner (Pipeline.entry 0)) ())) Q := wp_call (sG m) d Q

set_option backward.isDefEq.respectTransparency.types false in
theorem wp_second [∀ e, Nonempty (Elt F e)] (d : Dev nD) (Q : PUnit → sProp 𝕄) :
    iprop((iprop(boundary (SparseCore.T d) ∗ unscopedBufs d (refs (VE m) d) ∗ owesBefore (F := F) d 1) -∗ Q ⟨⟩)
        ∗ boundary (SparseCore.T d) ∗ iprop(unscopedBufs d (refs (VD m) d) ∗ owesBefore (F := F) d 1) ∗ levAts (K (F := F)).L (K (F := F)).lev
        ∗ Pipeline.cellsGhost (pins (F := F)) EP 1 d ∗ Pipeline.toksInit (pins (F := F)) EP 1 d)
      ⊢ wp frame (wpE ((K (F := F)).defs (D (F := F))) 𝒱 (SparseCore.T d) none) Set.univ
          (Prog.lift (.customCall (SparseCore.inner (Pipeline.entry 1)) ())) Q := wp_call (sF m) d Q

/-- What else the TensorCore's state before call `n` holds. -/
def more (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) (n : ℕ) : ((K (F := F)).tcSt EH d n : sProp 𝕄) = iprop(owesBefore (F := F) d n ∗ more d n) := rfl

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ held (SparseCore.T d) held0 (VF m d) ∗ (K (F := F)).tcEnd d) := by
  have hstart : (unscopedBufs d (fun b => m ((SparseCore.T d).loc b)) : sProp 𝕄) = held (SparseCore.T d) held0 (V0 m d) := unscopedBufs_held d (V0 m d)
  unfold SparseCore.Cfg.tcRes SparseCore.Cfg.tcEnd
  rw [hstart]
  simp only [main, wp_bind, wp_pure]
  unfold ghost
  rw [both, both]
  iintro ⟨#Hctx, Hst, ⟨Hb, Hh, Hts, -⟩, ⟨⟨Hc0, Hc1⟩, Ht0, Ht1⟩⟩
  ihave #Hlev := ((K (F := F)).ctx_levAts (EH := EH) (P := PP m) κ) $$ Hctx
  iapply (wp_hlo_within 𝒱 (SparseCore.T d) none Set.univ (op := opC) (S := held0) hC (V := V0 m d)) $$ [Hb Hh]
  · isplitl [Hb] <;> iassumption
  iintro ⟨Hb, Hh⟩
  rw [wp_ret]; imodintro
  iapply (wp_hlo_within 𝒱 (SparseCore.T d) none Set.univ (op := op0) (S := held0) h0 (V := _)) $$ [Hb Hh]
  · isplitl [Hb] <;> iassumption
  iintro ⟨Hb, Hh⟩
  rw [wp_ret]; imodintro
  iapply (wp_hlo_within 𝒱 (SparseCore.T d) none Set.univ (op := op1) (S := held0) h1 (V := _)) $$ [Hb Hh]
  · isplitl [Hb] <;> iassumption
  iintro ⟨Hb, Hh⟩
  rw [wp_ret]; imodintro
  iapply (wp_hlo_within 𝒱 (SparseCore.T d) none Set.univ (op := op2) (S := held0) h2 (V := _)) $$ [Hb Hh]
  · isplitl [Hb] <;> iassumption
  iintro ⟨Hb, Hh⟩
  rw [wp_ret]; imodintro
  -- the first TensorCore call
  ihave Hst := (Entails.of_eq (tcSt_eq d 0)) $$ Hst
  icases Hst with ⟨HO, Hst⟩
  iapply (wp_first m d)
  isplitl [Hst Hts Hc1 Ht1]
  rotate_left
  · isplitl [Hb]; · iexact Hb
    isplitl [Hh HO]
    · isplitl [Hh]
      · iapply (Entails.of_eq (unscopedBufs_held d (VA m d)).symm); iexact Hh
      · iexact HO
    isplitr; · iexact Hlev
    isplitl [Hc0] <;> iassumption
  iintro ⟨Hb, Hh, HO⟩
  ihave Hh := (Entails.of_eq (unscopedBufs_held d (VB m d))) $$ Hh
  iapply (wp_hlo_within 𝒱 (SparseCore.T d) none Set.univ (op := op4) (S := held0) h4 (V := VB m d)) $$ [Hb Hh]
  · isplitl [Hb] <;> iassumption
  iintro ⟨Hb, Hh⟩
  rw [wp_ret]; imodintro
  -- the SparseCore call
  ihave Hh := (show (held (SparseCore.T d) held0 ((op4 (F := F)).result (VB m d)) : sProp 𝕄) ⊢ held (SparseCore.T d) held0 (VC m d) from .rfl) $$ Hh
  ihave H := (Entails.of_eq (held_four d (VC m d))) $$ Hh
  icases H with ⟨Hfour, Hrest⟩
  iapply ((K (F := F)).wp_run (D (F := F)) 𝒱 (EH := EH) (P := PP m) κ d 0) $$ [HO Hst Hfour Hrest Hb Hts Hc1 Ht1]
  isplitr; · iexact Hctx
  isplitl [HO Hst]
  · iapply (Entails.of_eq (tcSt_eq d 0).symm)
    isplitl [HO] <;> iassumption
  isplitl [Hfour]
  · rw [st_whole]; iexact Hfour
  iintro ⟨Hst, Hdn⟩
  ihave Hfour := (Entails.of_eq (dn_whole (flat m) (words m) (fun d => VC m d main_v5_0) (fun d => VC m d main_v5_1) d)) $$ Hdn
  -- the second TensorCore call
  ihave Hst := (show ((K (F := F)).tcSt EH d ((0 : Fin 1).val + 1) : sProp 𝕄) ⊢ iprop(owesBefore (F := F) d 1 ∗ more d 1) from .rfl) $$ Hst
  icases Hst with ⟨HO, Hst⟩
  iapply (wp_second m d)
  isplitl [Hst Hts]
  rotate_left
  · isplitl [Hb]; · iexact Hb
    isplitl [Hfour Hrest HO]
    · isplitl [Hfour Hrest]
      · iapply (Entails.of_eq (unscopedBufs_held d (VD m d)).symm)
        iapply (Entails.of_eq (held_four d (VD m d)).symm)
        isplitl [Hfour]
        · rw [VD_e, VD_c, VD_n, VD_p]; iexact Hfour
        · iapply (Entails.of_eq (rest_eq m d)); iexact Hrest
      · iexact HO
    isplitr; · iexact Hlev
    isplitl [Hc1] <;> iassumption
  iintro ⟨Hb, Hh, HO⟩
  ihave Hh := (Entails.of_eq (unscopedBufs_held d (VE m d))) $$ Hh
  iapply (wp_hlo_within 𝒱 (SparseCore.T d) none Set.univ (op := op7) (S := held0) h7 (V := VE m d)) $$ [Hb Hh]
  · isplitl [Hb] <;> iassumption
  iintro ⟨Hb, Hh⟩
  rw [wp_ret]; imodintro; imodintro
  isplitl [HO Hst]
  · iapply (Entails.of_eq (tcSt_eq d 1).symm)
    isplitl [HO] <;> iassumption
  isplitl [Hh]; · iapply (show (held (SparseCore.T d) held0 ((op7 (F := F)).result (VE m d)) : sProp 𝕄) ⊢ held (SparseCore.T d) held0 (VF m d) from .rfl); iexact Hh
  isplitl [Hb] <;> iassumption

/-! ## The final state -/

/-- What the claims read: every buffer @main holds at its last valuation. -/
def fq (d : Dev nD) (s' : Phys nD τ sig (Elt F)) : Prop := ∀ b ∈ held0, s'.mem.mem (d, b) = VF m d b

theorem held_reads (d : Dev nD) (s' : Phys nD τ sig (Elt F)) (W : Valuation τ sig (Elt F)) (S : Finset (DevRef τ sig)) (b : DevRef τ sig) (hb : b ∈ S) :
    iprop(held (SparseCore.T d) S W ∗ SI s') ⊢ (⌜s'.mem.mem (d, b) = W b⌝ : sProp 𝕄) := by
  unfold StableHlo.held
  rw [SparseCore.bigSep_erase' hb]
  iintro ⟨⟨Hb, -⟩, HSI⟩
  ihave H := (SI_pointsTo_agree (st := s') (ℓ := ((SparseCore.T d).1, b)) (I := Finset.univ) (q := fullShare) (f := W b)) $$ [HSI Hb]
  · isplitl [HSI] <;> iassumption
  icases H with %h
  ipureintro
  exact funext fun i => h i (Finset.mem_univ i)

theorem hfin (d : Dev nD) (s' : Phys nD τ sig (Elt F)) : iprop(held (SparseCore.T d) held0 (VF m d) ∗ SI s') ⊢ (⌜fq m d s'⌝ : sProp 𝕄) := by
  by_cases hall : fq m d s'
  · iintro -; ipureintro; exact hall
  · obtain ⟨b, hb⟩ := not_forall.mp hall
    obtain ⟨hb, hne⟩ := Classical.not_imp.mp hb
    exact (held_reads d s' (VF m d) held0 b hb).trans (Laws.pure_mono fun h => absurd h hne)

theorem out_held : (Proc.devRef .tc main_v7 : DevRef τ sig) ∈ held0 := by decide
theorem args_held : ∀ b : Ref sig .tc, b ∈ [main_arg0, main_arg1, main_arg2, main_arg3] → (Proc.devRef .tc b : DevRef τ sig) ∈ held0 := by decide

/-- What the run ends in. -/
def QC : PUnit × MemSt nD τ sig (Elt F) → Prop := fun r =>
  (∀ c : Dev nD, r.2.mem ((SparseCore.T c).loc main_v7) = VF m c main_v7
    ∧ ∀ b : Ref sig .tc, b ∈ [main_arg0, main_arg1, main_arg2, main_arg3] → r.2.mem ((SparseCore.T c).loc b) = m ((SparseCore.T c).loc b))
  ∧ r.2.sem = fun _ => 0

theorem run_main [∀ e, Nonempty (Elt F e)] (hc : InRange (F := F) (words m)) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ facts hc)
    (fun q _ => match q with | 0 => SparseCore.Cfg.VecSplit.of_plain (vecSplit _ _ _ _))
    m ρ main (fun d => ghost d) (fun d => held (SparseCore.T d) held0 (VF m d)) (u₀ (F := F)) (sep_elim_left.trans (hu₀ m)) (hmain m ρ) (fq m) (hfin m)
    (QC m) fun s h hz => ⟨fun c => ⟨h c _ out_held, fun b hb => (h c _ (args_held b hb)).trans (VF_kept m c b hb)⟩, hz⟩

end Cert.Proof.Run

end
-- ==== Proof.Tables.lean ====
/-
  The kernel's index table against the reference's table of random columns.

  The kernel's table row `w`, entry `64 k + t`, is the place in the flat exponentials (16 blocks of 2048 rows of 128)
  of row `i = 64 w + t` and a column: `i` itself at `k = 0`, else the reference's column `r` at `(i, k - 1)` moved up by
  one when it is at least `i`.
-/
module

public import proofs.«01_k».proof.KernelIdeal
public import proofs.«01_k».proof.ReferenceIdeal

@[expose] public section

set_option maxRecDepth 100000

namespace Cert.Proof.Tables

/-- The place of row `i`, column `c` in the flat array of 16 blocks of 2048 rows of 128. -/
def place (i c : Nat) : Nat := ((c / 128) * 2048 + i) * 128 + c % 128

/-- The column the random word `r` of row `i` names: moved up past the row's own. -/
def moved (i r : Nat) : Nat := if i ≤ r then r + 1 else r

/-- The kernel's table agrees with the reference's at tile `w`: every word of the reference's is below 2047. -/
def TileOk (w : Nat) : Prop :=
  ∀ t : Fin 64, (Cert.KernelIdeal.lit0t (w * 2176 + t.val)).toNat = place (w * 64 + t.val) (w * 64 + t.val)
    ∧ ∀ k : Fin 32, (Cert.ReferenceIdeal.lit0t ((w * 64 + t.val) * 32 + k.val)).toNat < 2047
      ∧ (Cert.KernelIdeal.lit0t (w * 2176 + (k.val + 1) * 64 + t.val)).toNat
        = place (w * 64 + t.val) (moved (w * 64 + t.val) (Cert.ReferenceIdeal.lit0t ((w * 64 + t.val) * 32 + k.val)).toNat)

noncomputable instance (w : Nat) : Decidable (TileOk w) := inferInstanceAs (Decidable (∀ _ : Fin 64, _ ∧ ∀ _ : Fin 32, _ ∧ _))

end Cert.Proof.Tables
-- ==== Proof.TablesA.lean ====
/-
  The kernel's index table against the reference's: tiles 0 to 7.
-/
module

public import proofs.«01_k».proof.Proof.Tables

public section

set_option maxRecDepth 100000

namespace Cert.Proof.Tables

theorem tile0 : TileOk 0 := by decide +kernel
theorem tile1 : TileOk 1 := by decide +kernel
theorem tile2 : TileOk 2 := by decide +kernel
theorem tile3 : TileOk 3 := by decide +kernel
theorem tile4 : TileOk 4 := by decide +kernel
theorem tile5 : TileOk 5 := by decide +kernel
theorem tile6 : TileOk 6 := by decide +kernel
theorem tile7 : TileOk 7 := by decide +kernel

end Cert.Proof.Tables
-- ==== Proof.TablesB.lean ====
/-
  The kernel's index table against the reference's: tiles 8 to 15.
-/
module

public import proofs.«01_k».proof.Proof.Tables

public section

set_option maxRecDepth 100000

namespace Cert.Proof.Tables

theorem tile8 : TileOk 8 := by decide +kernel
theorem tile9 : TileOk 9 := by decide +kernel
theorem tile10 : TileOk 10 := by decide +kernel
theorem tile11 : TileOk 11 := by decide +kernel
theorem tile12 : TileOk 12 := by decide +kernel
theorem tile13 : TileOk 13 := by decide +kernel
theorem tile14 : TileOk 14 := by decide +kernel
theorem tile15 : TileOk 15 := by decide +kernel

end Cert.Proof.Tables
-- ==== Proof.TablesC.lean ====
/-
  The kernel's index table against the reference's: tiles 16 to 23.
-/
module

public import proofs.«01_k».proof.Proof.Tables

public section

set_option maxRecDepth 100000

namespace Cert.Proof.Tables

theorem tile16 : TileOk 16 := by decide +kernel
theorem tile17 : TileOk 17 := by decide +kernel
theorem tile18 : TileOk 18 := by decide +kernel
theorem tile19 : TileOk 19 := by decide +kernel
theorem tile20 : TileOk 20 := by decide +kernel
theorem tile21 : TileOk 21 := by decide +kernel
theorem tile22 : TileOk 22 := by decide +kernel
theorem tile23 : TileOk 23 := by decide +kernel

end Cert.Proof.Tables
-- ==== Proof.TablesD.lean ====
/-
  The kernel's index table against the reference's: tiles 24 to 31.
-/
module

public import proofs.«01_k».proof.Proof.Tables

public section

set_option maxRecDepth 100000

namespace Cert.Proof.Tables

theorem tile24 : TileOk 24 := by decide +kernel
theorem tile25 : TileOk 25 := by decide +kernel
theorem tile26 : TileOk 26 := by decide +kernel
theorem tile27 : TileOk 27 := by decide +kernel
theorem tile28 : TileOk 28 := by decide +kernel
theorem tile29 : TileOk 29 := by decide +kernel
theorem tile30 : TileOk 30 := by decide +kernel
theorem tile31 : TileOk 31 := by decide +kernel

end Cert.Proof.Tables
-- ==== Proof.TablesAll.lean ====
/-
  The kernel's index table against the reference's: all tiles.
-/
module

public import proofs.«01_k».proof.Proof.TablesA
public import proofs.«01_k».proof.Proof.TablesB
public import proofs.«01_k».proof.Proof.TablesC
public import proofs.«01_k».proof.Proof.TablesD

public section

namespace Cert.Proof.Tables

/-- Every tile's row of the table agrees. -/
theorem tiles : ∀ w : Fin 32, TileOk w.val
  | ⟨0, _⟩ => tile0
  | ⟨1, _⟩ => tile1
  | ⟨2, _⟩ => tile2
  | ⟨3, _⟩ => tile3
  | ⟨4, _⟩ => tile4
  | ⟨5, _⟩ => tile5
  | ⟨6, _⟩ => tile6
  | ⟨7, _⟩ => tile7
  | ⟨8, _⟩ => tile8
  | ⟨9, _⟩ => tile9
  | ⟨10, _⟩ => tile10
  | ⟨11, _⟩ => tile11
  | ⟨12, _⟩ => tile12
  | ⟨13, _⟩ => tile13
  | ⟨14, _⟩ => tile14
  | ⟨15, _⟩ => tile15
  | ⟨16, _⟩ => tile16
  | ⟨17, _⟩ => tile17
  | ⟨18, _⟩ => tile18
  | ⟨19, _⟩ => tile19
  | ⟨20, _⟩ => tile20
  | ⟨21, _⟩ => tile21
  | ⟨22, _⟩ => tile22
  | ⟨23, _⟩ => tile23
  | ⟨24, _⟩ => tile24
  | ⟨25, _⟩ => tile25
  | ⟨26, _⟩ => tile26
  | ⟨27, _⟩ => tile27
  | ⟨28, _⟩ => tile28
  | ⟨29, _⟩ => tile29
  | ⟨30, _⟩ => tile30
  | ⟨31, _⟩ => tile31
  | ⟨n + 32, h⟩ => absurd h (by omega)

end Cert.Proof.Tables
-- ==== Proof.TablesRest.lean ====
/-
  The words of the kernel's index table past each tile's 33 columns.
-/
module

public import proofs.«01_k».proof.Proof.Tables

public section

set_option maxRecDepth 100000

namespace Cert.Proof.Tables

/-- The words past a tile's 33 columns. -/
theorem rest_small : ∀ w : Fin 32, ∀ t : Fin 64, (Cert.KernelIdeal.lit0t (w.val * 2176 + 2112 + t.val)).toNat < 4194304 := by decide +kernel

end Cert.Proof.Tables
-- ==== Proof.InRange.lean ====
/-
  Every word of the kernel's index table is a place in the flat exponentials.
-/
module

public import proofs.«01_k».proof.Proof.Launch
public import proofs.«01_k».proof.Proof.TablesAll
public import proofs.«01_k».proof.Proof.TablesRest

@[expose] public section

set_option maxRecDepth 100000

noncomputable section

namespace Cert.Proof.Tables

theorem place_lt (i c : ℕ) (hi : i < 2048) (hc : c < 2048) : place i c < 4194304 := by
  unfold place
  have := Nat.mod_lt c (show 128 > 0 by decide)
  have : c / 128 < 16 := by omega
  omega

theorem moved_lt (i r : ℕ) (hr : r < 2047) : moved i r < 2048 := by
  unfold moved; split <;> omega

/-- The words of a tile's row, for any two tables that agree as `TileOk` says. -/
theorem small_of (L R : ℕ → BitVec 32) (w x : ℕ) (hw : w < 32) (hx : x < 2176)
    (ok : ∀ t : Fin 64, (L (w * 2176 + t.val)).toNat = place (w * 64 + t.val) (w * 64 + t.val)
      ∧ ∀ k : Fin 32, (R ((w * 64 + t.val) * 32 + k.val)).toNat < 2047
        ∧ (L (w * 2176 + (k.val + 1) * 64 + t.val)).toNat = place (w * 64 + t.val) (moved (w * 64 + t.val) (R ((w * 64 + t.val) * 32 + k.val)).toNat))
    (past : ∀ t : Fin 64, (L (w * 2176 + 2112 + t.val)).toNat < 4194304) : (L (w * 2176 + x)).toNat < 4194304 := by
  obtain ⟨k, t, ht, rfl⟩ : ∃ k t, t < 64 ∧ x = 64 * k + t := ⟨x / 64, x % 64, Nat.mod_lt _ (by decide), (Nat.div_add_mod x 64).symm⟩
  have hrow : w * 64 + t < 2048 := by omega
  rcases Nat.lt_or_ge k 33 with hk | hk
  · rcases k with _ | k
    · rw [show w * 2176 + (64 * 0 + t) = w * 2176 + t by omega]
      exact lt_of_eq_of_lt (ok ⟨t, ht⟩).1 (place_lt _ _ hrow hrow)
    · have hk' : k < 32 := by omega
      rw [show w * 2176 + (64 * (k + 1) + t) = w * 2176 + (k + 1) * 64 + t by omega]
      exact lt_of_eq_of_lt ((ok ⟨t, ht⟩).2 ⟨k, hk'⟩).2 (place_lt _ _ hrow (moved_lt _ _ ((ok ⟨t, ht⟩).2 ⟨k, hk'⟩).1))
  · obtain rfl : k = 33 := by omega
    rw [show w * 2176 + (64 * 33 + t) = w * 2176 + 2112 + t by omega]
    exact past ⟨t, ht⟩

theorem word_small (w : Fin 32) (x : ℕ) (hx : x < 2176) : (Cert.KernelIdeal.lit0t (w.val * 2176 + x)).toNat < 4194304 :=
  small_of Cert.KernelIdeal.lit0t Cert.ReferenceIdeal.lit0t w.val x w.isLt hx (tiles w) (rest_small w)

end Cert.Proof.Tables

namespace Cert.Proof.Run

open Cert.KernelIdeal Cert.KernelIdeal.Gen
open Idealize.ShloMosaic Idealize.ShloMosaic.TcCoe

variable {F : FTy → Type} [FloatOps F] [Named F]

/-- The table's word at `(w, x)`. -/
theorem table_at (j : S32x2176.Idx) : table j = lit0t ((j 0).val * 2176 + (j 1).val) :=
  congrArg lit0t (Shape.rowMajor_val_two j)

theorem inRange_of (c : S32x2176.Idx → BitVec 32) (L : ℕ → BitVec 32) (hc : ∀ j, c j = L ((j 0).val * 2176 + (j 1).val))
    (hL : ∀ (w : Fin 32) (x : ℕ), x < 2176 → (L (w.val * 2176 + x)).toNat < 4194304) (j : S32x2176.Idx) : (c j).toNat < 4194304 := by
  rw [hc]; exact hL (j 0) _ (j 1).isLt

theorem inRange (m : (ℓ : Loc nD τ sig) → Buf (Elt F) ℓ) : InRange (F := F) (words m) := by
  intro d j
  rw [words_eq]
  exact inRange_of table lit0t table_at Cert.Proof.Tables.word_small j

end Cert.Proof.Run

end
-- ==== Proof.Same.lean ====
/-
  The index tables of the kernel as printed and of the idealized one are one.
-/
module

public import proofs.«01_k».proof.Kernel
public import proofs.«01_k».proof.KernelIdeal

@[expose] public section

namespace Cert.Proof.Tables

set_option maxRecDepth 100000 in
theorem table_same : Cert.Kernel.lit0t = Cert.KernelIdeal.lit0t := rfl

end Cert.Proof.Tables
-- ==== Proof.Printed.InRange.lean ====
/-
  Every word of the printed kernel's index table is a place in the flat exponentials.
-/
module

public import proofs.«01_k».proof.Proof.Printed.Launch
public import proofs.«01_k».proof.Proof.InRange
public import proofs.«01_k».proof.Proof.Same

@[expose] public section

set_option maxRecDepth 100000

noncomputable section

namespace Cert.Proof.Tables

theorem printed_of {L L' : ℕ → BitVec 32} (h : L = L') (hL : ∀ (w : Fin 32) (x : ℕ), x < 2176 → (L' (w.val * 2176 + x)).toNat < 4194304)
    (w : Fin 32) (x : ℕ) (hx : x < 2176) : (L (w.val * 2176 + x)).toNat < 4194304 := by
  subst h; exact hL w x hx

end Cert.Proof.Tables

namespace Cert.Proof.Printed

open Cert.Kernel Cert.Kernel.Gen
open Idealize.ShloMosaic Idealize.ShloMosaic.TcCoe

variable {F : FTy → Type} [FloatOps F]

/-- The table's word at `(w, x)`. -/
theorem table_at (j : S32x2176.Idx) : table j = lit0t ((j 0).val * 2176 + (j 1).val) :=
  congrArg lit0t (Shape.rowMajor_val_two j)

theorem inRange (m : (ℓ : Loc nD τ sig) → Buf (Elt F) ℓ) : InRange (F := F) (words m) := by
  intro d j
  rw [words_eq]
  exact Cert.Proof.Run.inRange_of table lit0t table_at (Cert.Proof.Tables.printed_of Cert.Proof.Tables.table_same Cert.Proof.Tables.word_small) j

end Cert.Proof.Printed

end
-- ==== Proof.Frames.lean ====
/-
  The frames: each program halts, its arguments untouched and every semaphore at zero.
-/
module

public import proofs.«01_k».proof.Defs
public import proofs.«01_k».proof.Proof.Printed.InRange
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => ⟨(h.1 c).2 _ (by decide), (h.1 c).2 _ (by decide), (h.1 c).2 _ (by decide), (h.1 c).2 _ (by decide)⟩, h.2⟩)
    (Printed.run_main (F := Bits) m ρ (Printed.inRange m))

theorem frame_ideal : Cert.quiescent_KernelIdeal := fun m ρ _ =>
  (θ_run Cert.KernelIdeal.defs _ _).mono (fun _ h => ⟨fun c => ⟨(h.1 c).2 _ (by decide), (h.1 c).2 _ (by decide), (h.1 c).2 _ (by decide), (h.1 c).2 _ (by decide)⟩, h.2⟩)
    (Run.run_main (F := Ideal) m ρ (Run.inRange m))

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Row.lean ====
/-
  The mathematics of one term: the exponential of a scaled cosine, as the kernel has it (each row scaled by the reciprocal of its norm
  first) and as the reference has it (the product of the rows over the product of the norms). They are one positive real wherever each
  row's squared norm is zero or at least the clip.
-/
module

public import Idealize.ShloMosaic.PureOps.Ideal
public import Idealize.ShloMosaic.PureOps.Ideal.Laws

@[expose] public section

noncomputable section

namespace Cert.Proof.Row

open Idealize.ShloMosaic

/-- The clip, the temperature, and the exact reciprocal of the temperature. -/
abbrev clip : EReal := Ideal.ofBits .f32 841731191#32
abbrev temp : EReal := Ideal.ofBits .f32 1036831949#32
abbrev inv : EReal := ((134217728 / 13421773 : ℝ) : EReal)

theorem clip_eq : clip = ((11258999 / 2 ^ 50 : ℝ) : EReal) := by
  simp [clip, Ideal.ofBits, Ideal.ieee, -EReal.coe_mul]; norm_num

theorem temp_eq : temp = ((13421773 / 134217728 : ℝ) : EReal) := by
  simp [temp, Ideal.ofBits, Ideal.ieee, -EReal.coe_mul]; norm_num

theorem rows_eq : Ideal.ofBits .f32 1157627904#32 = ((2048 : ℝ) : EReal) := by
  simp [Ideal.ofBits, Ideal.ieee, -EReal.coe_mul]; norm_num

variable {n : ℕ}

/-- The squared norm. -/
def sq (x : Fin n → EReal) : EReal := ∑ d, x d * x d

/-- The term as the reference has it. -/
def ours (x y : Fin n → EReal) : EReal :=
  Ideal.exp (Ideal.div (Ideal.div (∑ d, x d * y d) (max (Ideal.sqrt (sq x) * Ideal.sqrt (sq y)) clip)) temp)

/-- The term as the kernel has it. -/
def theirs (x y : Fin n → EReal) : EReal :=
  Ideal.exp (∑ d, x d * (Ideal.div 1 (max (Ideal.sqrt (sq x)) clip) * inv) * (y d * Ideal.div 1 (max (Ideal.sqrt (sq y)) clip)))

/-- A row's squared norm is zero or at least the clip. -/
def Usable (x : Fin n → EReal) : Prop := sq x = 0 ∨ clip ≤ sq x

theorem square_nonneg (a : EReal) : 0 ≤ a * a := by
  induction a with
  | bot => simp
  | top => simp
  | coe r => rw [← EReal.coe_mul]; exact_mod_cast mul_self_nonneg r

theorem zero_of_sq {x : Fin n → EReal} (h : sq x = 0) (d : Fin n) : x d = 0 := by
  have h' := (Finset.sum_eq_zero_iff_of_nonneg (fun i _ => square_nonneg (x i))).1 h d (Finset.mem_univ d)
  exact mul_self_eq_zero.1 h'

theorem clip_pos : (0 : EReal) < clip := by
  rw [clip_eq]; exact_mod_cast (by norm_num : (0 : ℝ) < 11258999 / 2 ^ 50)

theorem div_zero_left {m : EReal} (h : m ≠ 0) : Ideal.div 0 m = 0 := by
  rw [Ideal.div, if_neg h, zero_mul]

theorem div_top (m : EReal) : Ideal.div m ⊤ = 0 := by
  rw [Ideal.div, if_neg EReal.top_ne_zero, EReal.inv_top, mul_zero]

theorem clipped_ne {m : EReal} : max m clip ≠ 0 := (lt_of_lt_of_le clip_pos (le_max_right _ _)).ne'

theorem temp_ne : temp ≠ 0 := by
  rw [temp_eq]; exact_mod_cast (by norm_num : (13421773 / 134217728 : ℝ) ≠ 0)

theorem exp_zero : Ideal.exp 0 = ((1 : ℝ) : EReal) := by
  show Ideal.exp ((0 : ℝ) : EReal) = _
  rw [Ideal.exp_coe, Real.exp_zero]

/-- A product of zero sends the reference's term to one. -/
theorem ours_of_zero {x y : Fin n → EReal} (h : ∑ d, x d * y d = 0) : ours x y = ((1 : ℝ) : EReal) := by
  unfold ours
  rw [h, div_zero_left clipped_ne, div_zero_left temp_ne, exp_zero]

theorem theirs_of_zero {x y : Fin n → EReal} (h : ∀ d, x d = 0 ∨ y d = 0) : theirs x y = ((1 : ℝ) : EReal) := by
  unfold theirs
  rw [Finset.sum_eq_zero fun d _ => ?_, exp_zero]
  rcases h d with h | h <;> rw [h] <;> simp

theorem sqrt_top_of {x : Fin n → EReal} (h : sq x = ⊤) : Ideal.div 1 (max (Ideal.sqrt (sq x)) clip) = 0 := by
  rw [h, Ideal.sqrt_top, max_eq_left le_top, div_top]

theorem sqrt_pos_of {x : Fin n → EReal} (h : clip ≤ sq x) : 0 < Ideal.sqrt (sq x) := by
  have h0 := lt_of_lt_of_le clip_pos h
  generalize sq x = s at h0
  induction s with
  | bot => exact absurd h0 (by simp)
  | top => rw [Ideal.sqrt_top]; exact EReal.zero_lt_top
  | coe r =>
    have hr : 0 < r := by exact_mod_cast h0
    rw [Ideal.sqrt_coe, if_neg (not_lt.2 hr.le)]
    exact_mod_cast Real.sqrt_pos.2 hr

theorem ours_of_top {x y : Fin n → EReal} (h : Ideal.sqrt (sq x) * Ideal.sqrt (sq y) = ⊤) : ours x y = ((1 : ℝ) : EReal) := by
  unfold ours
  rw [h, max_eq_left le_top, div_top, div_zero_left temp_ne, exp_zero]

/-- A row of finite squared norm is a row of reals. -/
theorem real_of {x : Fin n → EReal} {s : ℝ} (h : sq x = s) : ∃ x' : Fin n → ℝ, x = fun d => ((x' d : ℝ) : EReal) := by
  have hx : ∀ d, x d * x d ≤ s := fun d => h ▸ Finset.single_le_sum (f := fun d => x d * x d) (fun i _ => square_nonneg (x i)) (Finset.mem_univ d)
  refine ⟨fun d => (x d).toReal, funext fun d => (EReal.coe_toReal ?_ ?_).symm⟩
  · intro e
    have := hx d
    rw [e, EReal.top_mul_top] at this
    exact absurd this (by simp)
  · intro e
    have := hx d
    rw [e, EReal.bot_mul_bot] at this
    exact absurd this (by simp)

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem clip_le_sqrt {s : ℝ} (h : 11258999 / 2 ^ 50 ≤ s) : 11258999 / 2 ^ 50 ≤ Real.sqrt s := by
  refine Real.le_sqrt_of_sq_le (le_trans ?_ h)
  norm_num

theorem agree_real (x y : Fin n → ℝ) {s t : ℝ} (hs : sq (fun d => (x d : EReal)) = s) (ht : sq (fun d => (y d : EReal)) = t)
    (hs' : 11258999 / 2 ^ 50 ≤ s) (ht' : 11258999 / 2 ^ 50 ≤ t) :
    ∃ r : ℝ, 0 < r ∧ theirs (fun d => (x d : EReal)) (fun d => (y d : EReal)) = r ∧ ours (fun d => (x d : EReal)) (fun d => (y d : EReal)) = r := by
  have hs0 : (0 : ℝ) < s := lt_of_lt_of_le (by norm_num) hs'
  have ht0 : (0 : ℝ) < t := lt_of_lt_of_le (by norm_num) ht'
  have ha : 0 < Real.sqrt s := Real.sqrt_pos.2 hs0
  have hb : 0 < Real.sqrt t := Real.sqrt_pos.2 ht0
  have ea : Ideal.sqrt (s : EReal) = (Real.sqrt s : EReal) := by rw [Ideal.sqrt_coe, if_neg (not_lt.2 hs0.le)]
  have eb : Ideal.sqrt (t : EReal) = (Real.sqrt t : EReal) := by rw [Ideal.sqrt_coe, if_neg (not_lt.2 ht0.le)]
  have ma : max (Real.sqrt s : EReal) clip = (Real.sqrt s : EReal) := by
    rw [clip_eq]; exact max_eq_left (EReal.coe_le_coe_iff.2 (clip_le_sqrt hs'))
  have mb : max (Real.sqrt t : EReal) clip = (Real.sqrt t : EReal) := by
    rw [clip_eq]; exact max_eq_left (EReal.coe_le_coe_iff.2 (clip_le_sqrt ht'))
  have mc : max ((Real.sqrt s : EReal) * (Real.sqrt t : EReal)) clip = ((Real.sqrt s * Real.sqrt t : ℝ) : EReal) := by
    rw [clip_eq, ← EReal.coe_mul]
    refine max_eq_left (EReal.coe_le_coe_iff.2 ?_)
    rw [← Real.sqrt_mul hs0.le]
    refine Real.le_sqrt_of_sq_le ?_
    calc ((11258999 / 2 ^ 50 : ℝ)) ^ 2 = (11258999 / 2 ^ 50) * (11258999 / 2 ^ 50) := by ring
      _ ≤ s * t := mul_le_mul hs' ht' (by norm_num) hs0.le
  refine ⟨Real.exp ((∑ d, x d * y d) / (Real.sqrt s * Real.sqrt t) * (134217728 / 13421773)), Real.exp_pos _, ?_, ?_⟩
  · unfold theirs
    rw [hs, ht, ea, eb, ma, mb, ← EReal.coe_one, Ideal.div_coe ha.ne', Ideal.div_coe hb.ne', ← Ideal.exp_coe]
    refine congrArg Ideal.exp ?_
    simp only [inv, ← EReal.coe_mul]
    rw [coe_sum]
    refine congrArg _ ?_
    rw [Finset.sum_div, Finset.sum_mul]
    refine Finset.sum_congr rfl fun d _ => ?_
    field_simp
  · unfold ours
    rw [hs, ht, ea, eb, mc, temp_eq, Ideal.div_coe (mul_pos ha hb).ne', Ideal.div_coe (by norm_num), ← Ideal.exp_coe]
    refine congrArg Ideal.exp ?_
    simp only [← EReal.coe_mul]
    rw [coe_sum, ← EReal.coe_mul, ← EReal.coe_mul]
    refine congrArg _ ?_
    field_simp

/-- The two terms are one positive real. -/
theorem agree {x y : Fin n → EReal} (hx : Usable x) (hy : Usable y) : ∃ r : ℝ, 0 < r ∧ theirs x y = r ∧ ours x y = r := by
  rcases hx with hx | hx
  · have h := zero_of_sq hx
    exact ⟨1, one_pos, theirs_of_zero fun d => .inl (h d), ours_of_zero (Finset.sum_eq_zero fun d _ => by rw [h d, zero_mul])⟩
  rcases hy with hy | hy
  · have h := zero_of_sq hy
    exact ⟨1, one_pos, theirs_of_zero fun d => .inr (h d), ours_of_zero (Finset.sum_eq_zero fun d _ => by rw [h d, mul_zero])⟩
  by_cases tx : sq x = ⊤
  · refine ⟨1, one_pos, ?_, ours_of_top ?_⟩
    · unfold theirs
      rw [sqrt_top_of tx, Finset.sum_eq_zero fun d _ => ?_, exp_zero]
      rw [zero_mul, mul_zero, zero_mul]
    · rw [tx, Ideal.sqrt_top, EReal.top_mul_of_pos (sqrt_pos_of hy)]
  by_cases ty : sq y = ⊤
  · refine ⟨1, one_pos, ?_, ours_of_top ?_⟩
    · unfold theirs
      rw [sqrt_top_of ty, Finset.sum_eq_zero fun d _ => ?_, exp_zero]
      rw [mul_zero, mul_zero]
    · rw [ty, Ideal.sqrt_top, EReal.mul_top_of_pos (sqrt_pos_of hx)]
  have bx : sq x ≠ ⊥ := (lt_of_lt_of_le (lt_trans EReal.bot_lt_zero clip_pos) hx).ne'
  have bY : sq y ≠ ⊥ := (lt_of_lt_of_le (lt_trans EReal.bot_lt_zero clip_pos) hy).ne'
  have ex := (EReal.coe_toReal tx bx).symm
  have ey := (EReal.coe_toReal ty bY).symm
  obtain ⟨x', rfl⟩ := real_of ex
  obtain ⟨y', rfl⟩ := real_of ey
  rw [clip_eq, ex] at hx
  rw [clip_eq, ey] at hy
  exact agree_real x' y' ex ey (EReal.coe_le_coe_iff.1 hx) (EReal.coe_le_coe_iff.1 hy)

/-- The mean of the logarithms, the reference's quotient against the kernel's difference. -/
theorem mean {N m : ℕ} (p : Fin N → EReal) (q : Fin N → Fin m → EReal) (k₀ : Fin m) (hp : ∀ i, ∃ r : ℝ, 0 < r ∧ p i = r) (hq : ∀ i k, ∃ r : ℝ, 0 < r ∧ q i k = r) :
    Ideal.div (0 - ∑ i, (Ideal.log (p i) - Ideal.log (∑ k, q i k))) (Ideal.ofBits .f32 1157627904#32)
      = -Ideal.div (∑ i, Ideal.log (Ideal.div (p i) (∑ k, q i k))) (Ideal.ofBits .f32 1157627904#32) := by
  choose r hr0 hr using hp
  choose s hs0 hs using hq
  have hS : ∀ i, 0 < ∑ k, s i k := fun i => Finset.sum_pos (fun k _ => hs0 i k) ⟨k₀, Finset.mem_univ _⟩
  have e : ∀ i, ∑ k, q i k = ((∑ k, s i k : ℝ) : EReal) := fun i => by
    rw [← coe_sum]; exact Finset.sum_congr rfl fun k _ => hs i k
  have el : ∀ i, Ideal.log (p i) - Ideal.log (∑ k, q i k) = ((Real.log (r i) - Real.log (∑ k, s i k) : ℝ) : EReal) := fun i => by
    rw [hr, e, Ideal.log_coe, Ideal.log_coe, if_neg (not_le.2 (hr0 i)), if_neg (not_le.2 (hS i)), EReal.coe_sub]
  have er : ∀ i, Ideal.log (Ideal.div (p i) (∑ k, q i k)) = ((Real.log (r i) - Real.log (∑ k, s i k) : ℝ) : EReal) := fun i => by
    rw [hr, e, Ideal.div_coe (hS i).ne', ← EReal.coe_mul, Ideal.log_coe, mul_one_div, if_neg (not_le.2 (div_pos (hr0 i) (hS i))), Real.log_div (hr0 i).ne' (hS i).ne']
  rw [Finset.sum_congr rfl fun i _ => el i, Finset.sum_congr rfl fun i _ => er i, coe_sum, rows_eq, Ideal.div_coe (by norm_num), Ideal.div_coe (by norm_num),
    ← EReal.coe_zero, ← EReal.coe_sub, ← EReal.coe_mul, ← EReal.coe_mul, ← EReal.coe_neg]
  refine congrArg _ ?_
  ring

end Cert.Proof.Row

end
-- ==== Proof.Pre.lean ====
/-
  What the precondition says: no word of the mask is set, and each row's squared norm is zero or at least the clip.
-/
module

public import proofs.«01_k».proof.Pre_rows_usable
public import proofs.«01_k».proof.Proof.Row
public import Idealize.ShloMosaic.Lib.Pointwise
public import Idealize.ShloMosaic.Lib.ReduceAll

@[expose] public section

set_option maxRecDepth 16384

noncomputable section

namespace Cert.Proof.Pre

open Cert.Pre_rows_usable
open Idealize.ShloMosaic

theorem facts : Facts where
  reducesTo_S1x2048x768_S1x2048_d2 := by decide
  h_S_ := by decide
  reducesTo_S1x2048_S_d0_1 := by decide
  bcast_S_S1x2048 := by decide

variable [Facts]
open Facts

/-- Of each row, the squared norm. -/
def norms (a : FVec Ideal S1x2048x768 .f32) : FVec Ideal S1x2048 .f32 :=
  Host.reduceAdd (mulf a a) (constant S_ .f32 0x00000000#32) reducesTo_S1x2048x768_S1x2048_d2 h_S_

theorem norms_at (a : FVec Ideal S1x2048x768 .f32) (i : Fin 2048) : norms a (ix2 0 i) = Row.sq fun d => a (ix3 0 i d) := by
  unfold norms Row.sq
  pointwise

/-- Of each row, whether its squared norm is zero or at least the clip. -/
def usable (a : FVec Ideal S1x2048x768 .f32) : IVec S1x2048 1 :=
  ori (cmpf .oeq (norms a) (broadcastInDim S1x2048 ![] bcast_S_S1x2048 (constant S_ .f32 0x00000000#32)))
    (cmpf .oge (norms a) (broadcastInDim S1x2048 ![] bcast_S_S1x2048 (constant S_ .f32 0x322BCC77#32)))

theorem usable_at (a : FVec Ideal S1x2048x768 .f32) (i : Fin 2048) (h : usable a (ix2 0 i) = 1#1) : Row.Usable fun d => a (ix3 0 i d) := by
  unfold Row.Usable
  rw [← norms_at]
  have h' : IntOp.ori (Ideal.cmp .oeq (norms a (ix2 0 i)) (Ideal.ofBits .f32 0x00000000#32)) (Ideal.cmp .oge (norms a (ix2 0 i)) Row.clip) = 1#1 := h
  rw [show Ideal.ofBits .f32 0x00000000#32 = 0 from by simp [Ideal.ofBits, Ideal.ieee]] at h'
  generalize norms a (ix2 0 i) = z at h' ⊢
  by_contra hn
  obtain ⟨h1, h2⟩ := not_or.1 hn
  simp [Ideal.cmp, h1, h2, IntOp.ori] at h'

theorem said (a b : FVec Ideal S1x2048x768 .f32) (s : FVec Ideal S_ .f32) (k : IVec S1x2048 1) (h : fn (F := Ideal) a b s k = fun _ => 1#1) :
    (∀ i, k i = 0#1) ∧ (∀ i : Fin 2048, Row.Usable fun d => a (ix3 0 i d)) ∧ ∀ i : Fin 2048, Row.Usable fun d => b (ix3 0 i d) := by
  have h0 : IntOp.andi (IntOp.andi (Host.reduce IntOp.andi (noti k) (constantI S_ 1 1#1) reducesTo_S1x2048_S_d0_1 h_S_ (Shape.Idx.first h_S_))
      (Host.reduce IntOp.andi (usable a) (constantI S_ 1 1#1) reducesTo_S1x2048_S_d0_1 h_S_ (Shape.Idx.first h_S_)))
      (Host.reduce IntOp.andi (usable b) (constantI S_ 1 1#1) reducesTo_S1x2048_S_d0_1 h_S_ (Shape.Idx.first h_S_)) = 1#1 :=
    congrFun h (Shape.Idx.first h_S_)
  obtain ⟨h1, hb⟩ := IntOp.andi_eq_one.1 h0
  obtain ⟨hk, ha⟩ := IntOp.andi_eq_one.1 h1
  refine ⟨fun i => ?_, fun i => usable_at a i (Host.reduce_andi_all _ _ _ _ _ ha _), fun i => usable_at b i (Host.reduce_andi_all _ _ _ _ _ hb _)⟩
  have e : ~~~(k i) = 1#1 := Host.reduce_andi_all _ _ _ _ _ hk i
  generalize k i = w at e
  revert w
  decide

end Cert.Proof.Pre

end
-- ==== Proof.GramValue.lean ====
/-
  What the two TensorCore calls leave, over the extended reals: the first the terms of every row against every row, in blocks of 128
  columns; the second the loss of two vectors of sums.
-/
module

public import proofs.«01_k».proof.Proof.Regions
public import proofs.«01_k».proof.Proof.Row
public import Idealize.ShloMosaic.Lib.Pointwise
public import Idealize.ShloMosaic.Lib.Pipeline.ValueKit
public import Idealize.ShloMosaic.PureOps.IdealRules

@[expose] public section

set_option maxRecDepth 16384

noncomputable section

namespace Cert.Proof.Run

open Cert.KernelIdeal Cert.KernelIdeal.Gen
open Idealize.ShloMosaic Idealize.ShloMosaic.TcCoe
open Idealize.ShloMosaic.Pipeline (Dat)

/-- The scale the kernel names is the temperature's exact reciprocal. -/
theorem scale_eq : (Named.named (F := Ideal) (φ := .f32) κ "inv_temp" 1092616192#32 : EReal) = Row.inv :=
  IdealRules.named_const.ideal_named_scalar (φ := .f32) κ "inv_temp" _ ((134217728 / 13421773 : ℝ) : EReal) rfl

theorem gram_at (a : FVec Ideal S256x768 .f32) (b : FVec Ideal S2048x768 .f32) (r : Fin 256) (l : Fin 2048) :
    k0_pay8 (F := Ideal) a b (ix2 r l) = Row.theirs (fun d : Fin 768 => a (ix2 r d)) (fun d : Fin 768 => b (ix2 l d)) := by
  pointwise [k0_pay8]
  rw [scale_eq]
  rfl

theorem loss_at (p n : FVec Ideal S2048 .f32) (d : EReal) :
    k2_pay1 (F := Ideal) p n d = Ideal.div (0 - ∑ i : Fin 2048, (Ideal.log (p (ix1 i)) - Ideal.log (n (ix1 i)))) (Ideal.ofBits .f32 1157627904#32)
      + Ideal.ofBits .f32 1053609165#32 * d := by
  pointwise [k2_pay1]

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, t.val, 0] :=
  (by decide +kernel : ∀ t : Fin grid0.N, _)

theorem idx2 : ∀ t : Fin cfg2.N, win2_0.index t = ![0] ∧ win2_1.index t = ![0] ∧ win2_2.index t = ![0] ∧ win2_3.index t = ![0, 0] :=
  (by decide +kernel : ∀ t : Fin grid2.N, _)

/-- The column an index of the blocks stands at. -/
def column (x : S16x2048x128.Idx) : Fin 2048 :=
  ⟨(x 0).val * 128 + (x 2).val, by have h : (x 0).val < 16 := (x 0).isLt; have h' : (x 2).val < 128 := (x 2).isLt; omega⟩

/-- The terms in blocks. -/
def terms (a b : FVec Ideal S2048x768 .f32) : FVec Ideal S16x2048x128 .f32 := fun x =>
  Row.theirs (fun d : Fin 768 => a (ix2 (x 1) d)) (fun d : Fin 768 => b (ix2 (column x) d))

theorem rows_read (c : Dev nD) (t : Fin cfg0.N) (r : Fin 256) (d : Fin 768) (i : Fin 2048) (hi : i.val = t.val * 256 + r.val) :
    rowsAt V c t (ix2 r d) = V c main_v0 (ix2 i d) := by
  blk_ext [rowsAt, idx0 t]

theorem all_read (c : Dev nD) (t : Fin cfg0.N) (r : Fin 2048) (d : Fin 768) : allAt V c t (ix2 r d) = V c main_v1 (ix2 r d) := by
  blk_ext [allAt, idx0 t]

theorem rowCol_eq (r k : ℕ) (hr : r < 256) (hk : k < 2048) : rowCol r k = ix2 (⟨r, hr⟩ : Fin 256) (⟨k, hk⟩ : Fin 2048) := by
  funext a
  match a with
  | ⟨0, _⟩ => exact Fin.ext (Nat.mod_eq_of_lt hr)
  | ⟨1, _⟩ => exact Fin.ext (Nat.mod_eq_of_lt hk)

theorem out_place (t : Fin cfg0.N) (y : S16x256x128.Idx) : (((win0_2.blk t).view.emb y) 0).val = (y 0).val ∧ (((win0_2.blk t).view.emb y) 1).val = t.val * 256 + (y 1).val
    ∧ (((win0_2.blk t).view.emb y) 2).val = (y 2).val := by
  refine ⟨?_, ?_, ?_⟩ <;> blk_simp [idx0 t] <;> simp

theorem gram_value (c : Dev nD) : (datG V c).arrAt 2 cfg0.N = terms (V c main_v0) (V c main_v1) := by
  refine (datG V c).arrAt_eq_of_covers 2 _ (by decide +kernel) fun t _ y => ?_
  blk_simp
  have h0 : (y 0).val < 16 := (y 0).isLt
  have h1 : (y 1).val < 256 := (y 1).isLt
  have h2 : (y 2).val < 128 := (y 2).isLt
  obtain ⟨p0, p1, p2⟩ := out_place t y
  show k0_pay8 (F := Ideal) (rowsAt V c t) (allAt V c t) (rowCol (y 1).val ((y 0).val * 128 + (y 2).val)) = _
  rw [rowCol_eq _ _ h1 (by omega), gram_at]
  unfold terms
  refine congr (congrArg Row.theirs (funext fun d => rows_read V c t _ d _ p1)) (funext fun d => ?_)
  rw [all_read]
  refine congrArg (fun k => V c main_v1 (ix2 k d)) (Fin.ext ?_)
  show (y 0).val * 128 + (y 2).val = (((win0_2.blk t).view.emb y) 0).val * 128 + (((win0_2.blk t).view.emb y) 2).val
  rw [p0, p2]

theorem loss_value (c : Dev nD) : (datF V c).arrAt 3 cfg2.N = fun _ => k2_pay1 (F := Ideal) (V c main_v5_1) (V c main_v5_0) (V c main_v2 only) := by
  refine (datF V c).arrAt_eq_of_covers 3 _ (by decide +kernel) fun t _ y => ?_
  blk_simp
  show k2_pay1 (F := Ideal) (posAt V c t) (negAt V c t) (disAt V c t only) = _
  have e0 : posAt V c t = V c main_v5_1 := by blk_ext! [posAt, idx2 t]
  have e1 : negAt V c t = V c main_v5_0 := by blk_ext! [negAt, idx2 t]
  have e2 : disAt V c t only = V c main_v2 only := by blk_ext [disAt, idx2 t]
  rw [e0, e1, e2]

end Cert.Proof.Run

end
-- ==== Proof.Places.lean ====
/-
  Where the reference takes its rows. Of an unmasked sentence its list of kept positions is the positions themselves, so the rows it gathers
  are the arguments' rows in order, and its candidates are row `i` and thirty-two rows the table names, moved past `i`.
-/
module

public import proofs.«01_k».proof.Proof.Gen.ReferenceIdeal.Run
public import Idealize.ShloMosaic.Lib.Routing.Ops
public import Idealize.ShloMosaic.Lib.Pipeline.Value
public import Idealize.ShloMosaic.PureOps.Ideal

@[expose] public section

noncomputable section

namespace Cert.Proof.Places

open Cert.ReferenceIdeal Cert.ReferenceIdeal.Gen Cert.ReferenceIdeal.Value
open Idealize.ShloMosaic Idealize.ShloMosaic.ValueIdx Idealize.ShloMosaic.Routing Idealize.ShloMosaic.StableHlo

abbrev Val := Valuation τ sig (Elt Ideal)
abbrev ref (r : Ref sig .tc) : DevRef τ sig := Proc.devRef .tc r

/-- No word is masked out. -/
def Open (V : Val) : Prop := ∀ i : S1x2048.Idx, V (ref main_arg3) i = 0#1

variable {V : Val}

theorem kept (h : Open V) (i : Fin 2048) : res_main_v1 V (ix1 i) = 1#1 := by
  refine (cast21 (noti (V (ref main_arg3))) shapeCasts_S1x2048_S2048 (0 : Fin 1) i i (by simp)).trans ?_
  show ~~~ (show BitVec 1 from V (ref main_arg3) (ix2 0 i)) = 1#1
  rw [h (ix2 0 i)]
  rfl

theorem one (h : Open V) (i : Fin 2048) : extui 32 (res_main_v1 V) natLt_1_32 (ix1 i) = BitVec.ofNat 32 1 := by
  show (res_main_v1 V (ix1 i)).setWidth 32 = _
  rw [kept h]
  rfl

theorem ones (n : ℕ) : ((List.range n).map fun _ => 1).sum = n := by simp

/-- The running count of kept positions. -/
theorem count (h : Open V) (i : Fin 2048) : res_main_v2 V (ix1 i) = BitVec.ofNat 32 (i.val + 1) :=
  (cumsum1 (N := 2048) (Nm1 := 2047) rfl (extui 32 (res_main_v1 V) natLt_1_32) (fun _ => 1) (fun j => one h j) _ rfl reduceWindows_S2048_S2048_w2048s1p2047_0
    h_S_ i).trans (congrArg (BitVec.ofNat 32) (ones _))

theorem total (h : Open V) : Host.reduce IntOp.addi (extui 32 (res_main_v1 V) natLt_1_32) (constantI S_ 32 0#32) reducesTo_S2048_S_d0 h_S_ ix0 = BitVec.ofNat 32 2048 :=
  (reduce_sum (N := 2048) (extui 32 (res_main_v1 V) natLt_1_32) (fun _ => 1) (fun j => one h j) reducesTo_S2048_S_d0 h_S_).trans (congrArg (BitVec.ofNat 32) (ones _))

/-- A small word wrapped from below is itself. -/
theorem wrap {x : BitVec 32} {n : ℕ} (hx : x = BitVec.ofNat 32 n) (hn : n < 2 ^ 31) (b : BitVec 32) :
    Scalar.select (IntOp.cmpi .slt x 0#32) (IntOp.addi x b) x = BitVec.ofNat 32 n := by
  have hs : x.slt 0#32 = false := by
    subst hx
    rw [BitVec.slt, StableHlo.Predicate.toInt_ofNat_small _ hn]
    simp
  have hc : IntOp.cmpi .slt x 0#32 = 0#1 := by
    show BitVec.ofBool (x.slt 0#32) = 0#1
    rw [hs]
    rfl
  rw [hc]
  exact hx

/-- The number of kept positions before each. -/
theorem before (h : Open V) (i : Fin 2048) : res_main_v12 V (ix1 i) = BitVec.ofNat 32 i.val := by
  refine (cumsum1 (N := 2048) (Nm1 := 2047) rfl _ (fun x => Nat.count (fun k => k + 1 = x) 2048) (fun j => ?_) _ rfl reduceWindows_S2048_S2048_w2048s1p2047_0 h_S_ i).trans ?_
  · refine scatter_hist (N := 2048) scatter_S2048_S2048x1_S2048_n_0_0_1 rfl rfl rfl _ (fun _ => rfl) _ _ (fun _ => rfl) (fun k => k + 1) (fun k => ?_)
      (fun k => by have := k.isLt; omega) j
    refine (bcCol bcast_S2048_S2048x1_0 _ k).trans ?_
    exact wrap (count h k) (by have := k.isLt; omega) _
  · refine congrArg (BitVec.ofNat 32) ((sum_count_eq (fun k => k + 1) i.val 2048).trans ?_)
    have : ∀ n m, m ≤ n → Nat.count (fun k => k + 1 ≤ m) n = m := by
      intro n
      induction n with
      | zero => intro m hm; simp; omega
      | succ n ih =>
        intro m hm
        rw [Nat.count_succ]
        by_cases h1 : m ≤ n
        · rw [ih m h1, if_neg (by omega), Nat.add_zero]
        · have : m = n + 1 := by omega
          subst this
          rw [if_pos (le_refl _)]
          have e : Nat.count (fun k => k + 1 ≤ n + 1) n = Nat.count (fun k => k + 1 ≤ n) n := by
            rw [Nat.count_eq_card_filter_range, Nat.count_eq_card_filter_range]
            refine congrArg _ (Finset.filter_congr fun k hk => ?_)
            have := Finset.mem_range.1 hk
            omega
          rw [e, ih n (le_refl _)]
    exact this 2048 i.val (by have := i.isLt; omega)

/-- The quotient by one and the remainder by 2048, as the reference spells them for a word. -/
def sign (x : BitVec 32) : BitVec 32 := if x = 0 then 0 else if x.msb then -1 else 1
def quot (x : BitVec 32) : BitVec 32 :=
  Scalar.select (IntOp.andi (IntOp.cmpi .ne (sign x) (sign 1#32)) (IntOp.cmpi .ne (IntOp.remsi .host x 1#32) 0#32)) (IntOp.subi (IntOp.divsi .host x 1#32) 1#32)
    (IntOp.divsi .host x 1#32)
def modulus : BitVec 32 := Scalar.select (IntOp.cmpi .eq 2048#32 0#32) 1#32 2048#32
def rest (x : BitVec 32) : BitVec 32 := IntOp.remsi .host (quot x) modulus
def spelled (i x : BitVec 32) : BitVec 32 :=
  Scalar.select (IntOp.cmpi .sge i 2048#32) 0#32
    (Scalar.select (IntOp.andi (IntOp.cmpi .ne (IntOp.cmpi .slt (rest x) 0#32) (IntOp.cmpi .slt modulus 0#32)) (IntOp.cmpi .ne (rest x) 0#32))
      (IntOp.addi (rest x) modulus) (rest x))

set_option maxRecDepth 100000 in
theorem spelled_eq : ∀ i : Fin 2048, spelled (BitVec.ofNat 32 i.val) (BitVec.ofNat 32 i.val) = BitVec.ofNat 32 i.val := by decide +kernel

theorem index_spelled (V : Val) (i : Fin 2048)
    (hT : Host.reduce IntOp.addi (extui 32 (res_main_v1 V) natLt_1_32) (constantI S_ 32 0#32) reducesTo_S2048_S_d0 h_S_ ix0 = 2048#32) :
    res_main_v21 V (ix1 i) = spelled (BitVec.ofNat 32 i.val) (res_main_v12 V (ix1 i)) := by
  have hb : broadcastInDim S2048 ![0] bcast_S1_S2048_0 (broadcastInDim S1 ![] bcast_S_S1 (Host.reduce IntOp.addi (extui 32 (res_main_v1 V) natLt_1_32) (constantI S_ 32 0#32) reducesTo_S2048_S_d0 h_S_)) (ix1 i) = 2048#32 := by
    refine (broadcastInDim_apply _ bcast_S1_S2048_0 _ _ (ix1 (0 : Fin 1)) fun a => ?_).trans ((bc0 bcast_S_S1 _ _).trans hT)
    match a with
    | ⟨0, _⟩ => rfl
  unfold res_main_v21 res_main_call3_v4 res_main_call2_v2
  generalize broadcastInDim (s := S1) (α := BitVec 32) S2048 ![0] bcast_S1_S2048_0 _ = T at hb ⊢
  generalize res_main_v12 V = X
  show Scalar.select (IntOp.cmpi .sge (BitVec.ofNat 32 i.val) (T (ix1 i))) _ _ = _
  rw [hb]
  rfl

theorem index (h : Open V) (i : Fin 2048) : res_main_v21 V (ix1 i) = BitVec.ofNat 32 i.val := by
  rw [index_spelled V i (total h), before h]
  exact spelled_eq i

/-! ## The two gathers -/

theorem gather_two (x : S1x2048x768.Idx → EReal) (idx : IVec S2048x2 32) (c b : Fin 2048) (y : Fin 768) (hb : idx (ix2 c 1) = BitVec.ofNat 32 b.val) :
    Host.gather gather_S1x2048x768_S2048x2_S2048x768_1_01_n_n_01_1_11768 x idx (ix2 c y) = x (ix3 0 b y) := by
  unfold Host.gather
  refine congrArg x (funext fun a => ?_)
  match a with
  | ⟨0, _⟩ => exact Subsingleton.elim (α := Fin 1) _ _
  | ⟨1, _⟩ =>
    refine Fin.ext ?_
    have hs : gather_S1x2048x768_S2048x2_S2048x768_1_01_n_n_01_1_11768.siIdx (ix2 c y) ⟨1, by decide⟩ = ix2 c 1 := by
      funext b'
      match b' with
      | ⟨0, _⟩ => rfl
      | ⟨1, _⟩ => rfl
    show min (idx (gather_S1x2048x768_S2048x2_S2048x768_1_01_n_n_01_1_11768.siIdx (ix2 c y) ⟨1, by decide⟩)).toInt.toNat (2048 - 1) + 0 + 0 = b.val
    have hbl := b.isLt
    rw [hs, hb, StableHlo.Predicate.toInt_ofNat_small _ (by omega)]
    omega
  | ⟨2, _⟩ =>
    refine Fin.ext ?_
    show 0 + 0 + y.val = y.val
    omega

theorem gather_many (x : S2048x768.Idx → EReal) (idx : IVec S2048x32x1 32) (c b : Fin 2048) (k : Fin 32) (y : Fin 768) (hb : idx (ix3 c k 0) = BitVec.ofNat 32 b.val) :
    Host.gather gather_S2048x768_S2048x32x1_S2048x32x768_2_0_n_n_0_2_1768 x idx (ix3 c k y) = x (ix2 b y) := by
  unfold Host.gather
  refine congrArg x (funext fun a => ?_)
  match a with
  | ⟨0, _⟩ =>
    refine Fin.ext ?_
    have hs : gather_S2048x768_S2048x32x1_S2048x32x768_2_0_n_n_0_2_1768.siIdx (ix3 c k y) ⟨0, by decide⟩ = ix3 c k 0 := by
      funext b'
      match b' with
      | ⟨0, _⟩ => rfl
      | ⟨1, _⟩ => rfl
      | ⟨2, _⟩ => rfl
    show min (idx (gather_S2048x768_S2048x32x1_S2048x32x768_2_0_n_n_0_2_1768.siIdx (ix3 c k y) ⟨0, by decide⟩)).toInt.toNat (2048 - 1) + 0 + 0 = b.val
    have hbl := b.isLt
    rw [hs, hb, StableHlo.Predicate.toInt_ofNat_small _ (by omega)]
    omega
  | ⟨1, _⟩ =>
    refine Fin.ext ?_
    show 0 + 0 + y.val = y.val
    omega

/-! ## The gathered rows -/

theorem pair_second (a b : IVec S2048x1 32) (c : Fin 2048) :
    concatenate S2048x2 1 [⟨S2048x1, a⟩, ⟨S2048x1, b⟩] concatenates_S2048x1_S2048x1_S2048x2_d1 (ix2 c 1) = b (ix2 c 0) := by
  refine concatenate_pair_apply_right (1 : Fin S2048x2.rank) a b _ (ix2 c 1) rfl rfl (ix2 c 0) (fun d hd => ?_) rfl
  match d with
  | ⟨0, _⟩ => rfl
  | ⟨1, _⟩ => exact absurd rfl hd

theorem row_index (h : Open V) (a : IVec S2048x1 32) (c : Fin 2048) :
    concatenate S2048x2 1 [⟨S2048x1, a⟩, ⟨S2048x1, (broadcastInDim S2048x1 ![0] bcast_S2048_S2048x1_0 (select (cmpi .slt (res_main_v21 V) (broadcastInDim S2048 ![] bcast_S_S2048 (constantI S_ 32 0#32))) (addi (res_main_v21 V) (broadcastInDim S2048 ![] bcast_S_S2048 (constantI S_ 32 2048#32))) (res_main_v21 V)))⟩] concatenates_S2048x1_S2048x1_S2048x2_d1 (ix2 c 1)
      = BitVec.ofNat 32 c.val :=
  (pair_second a _ c).trans ((bcCol bcast_S2048_S2048x1_0 _ c).trans (wrap (index h c) (by have := c.isLt; omega) _))

theorem context (h : Open V) (i : Fin 2048) (d : Fin 768) : res_main_v32 V (ix2 i d) = V (ref main_arg0) (ix3 0 i d) :=
  gather_two _ _ i i d (row_index h _ i)

theorem label (h : Open V) (i : Fin 2048) (d : Fin 768) : res_main_v43 V (ix2 i d) = V (ref main_arg1) (ix3 0 i d) :=
  gather_two _ _ i i d (row_index h _ i)

end Cert.Proof.Places

end
-- ==== Proof.RefValue.lean ====
/-
  The reference's result over the arguments: of an unmasked sentence, the mean over the rows of the logarithm of the true candidate's term
  over the sum of the thirty-three candidates' terms, and the difference's share.
-/
module

public import proofs.«01_k».proof.Proof.Places
public import proofs.«01_k».proof.Proof.Tables
public import proofs.«01_k».proof.Proof.Row
public import Idealize.ShloMosaic.Lib.Pointwise

@[expose] public section

set_option maxRecDepth 16384

noncomputable section

namespace Cert.Proof.Places

open Cert.ReferenceIdeal Cert.ReferenceIdeal.Gen Cert.ReferenceIdeal.Value
open Idealize.ShloMosaic Idealize.ShloMosaic.Routing Idealize.ShloMosaic.StableHlo
open Cert.Proof.Tables (moved)

/-- The random words are below 2047. -/
def Small (R : ℕ → BitVec 32) : Prop := ∀ (i : Fin 2048) (k : Fin 32), (R (i.val * 32 + k.val)).toNat < 2047

/-- Candidate `k` of row `i`: the row itself, then the random columns moved past it. -/
def cand (R : ℕ → BitVec 32) (i k : ℕ) : ℕ := match k with
  | 0 => i
  | k + 1 => moved i (R (i * 32 + k)).toNat

theorem cand_lt {R : ℕ → BitVec 32} (hR : Small R) (i : Fin 2048) (k : Fin 33) : cand R i.val k.val < 2048 := by
  obtain ⟨k, hk⟩ := k
  rcases k with _ | k
  · exact i.isLt
  · have := hR i ⟨k, by omega⟩
    simp only [cand, moved]
    simp only at this
    split <;> omega

variable {V : Val}

theorem moved_word (w : BitVec 32) (i : ℕ) (hw : w.toNat < 2047) (hi : i < 2048) :
    IntOp.addi 0#32 (IntOp.addi w ((IntOp.cmpi .sge w (BitVec.ofNat 32 i)).setWidth 32)) = BitVec.ofNat 32 (moved i w.toNat) := by
  obtain ⟨n, rfl⟩ : ∃ n, w = BitVec.ofNat 32 n := ⟨w.toNat, by simp⟩
  have hn : (BitVec.ofNat 32 n).toNat = n % 2 ^ 32 := BitVec.toNat_ofNat _ _
  generalize hm : n % 2 ^ 32 = r at hn
  have e : BitVec.ofNat 32 n = BitVec.ofNat 32 r := BitVec.eq_of_toNat_eq (by rw [BitVec.toNat_ofNat, BitVec.toNat_ofNat]; omega)
  rw [hn] at hw ⊢
  rw [e]
  have hs : (BitVec.ofNat 32 i).sle (BitVec.ofNat 32 r) = decide (i ≤ r) := by
    rw [BitVec.sle, StableHlo.Predicate.toInt_ofNat_small _ (by omega), StableHlo.Predicate.toInt_ofNat_small _ (by omega)]
    simp
  have hc : IntOp.cmpi .sge (BitVec.ofNat 32 r) (BitVec.ofNat 32 i) = BitVec.ofBool (decide (i ≤ r)) := by
    rw [← hs]
    rfl
  rw [hc]
  show 0#32 + (BitVec.ofNat 32 r + _) = _
  unfold moved
  apply BitVec.eq_of_toNat_eq
  by_cases h : i ≤ r
  · rw [if_pos h, decide_eq_true h]
    simp [BitVec.toNat_add]
  · rw [if_neg h, decide_eq_false h]
    simp

theorem random (i : Fin 2048) (k : Fin 32) : res_main_c V (ix2 i k) = lit0t (i.val * 32 + k.val) :=
  congrArg lit0t (Shape.rowMajor_val_two (ix2 i k))

theorem shifted (hR : Small lit0t) (i : Fin 2048) (k : Fin 32) : res_main_v51 V (ix2 i k) = BitVec.ofNat 32 (cand lit0t i.val (k.val + 1)) := by
  have hb : broadcastInDim (s := S2048x1) (α := BitVec 32) S2048x32 ![0, 1] bcast_S2048x1_S2048x32_0_1 (broadcastInDim S2048x1 ![0] bcast_S2048_S2048x1_0 (iotaInDim S2048 32 0)) (ix2 i k) = BitVec.ofNat 32 i.val :=
    bcRows bcast_S2048_S2048x1_0 bcast_S2048x1_S2048x32_0_1 (iotaInDim S2048 32 0) i k
  unfold res_main_v51
  generalize broadcastInDim (s := S2048x1) (α := BitVec 32) S2048x32 ![0, 1] bcast_S2048x1_S2048x32_0_1 _ = T at hb ⊢
  show IntOp.addi 0#32 (IntOp.addi (res_main_c V (ix2 i k)) ((IntOp.cmpi .sge (res_main_c V (ix2 i k)) (T (ix2 i k))).setWidth 32)) = _
  rw [hb, random]
  exact moved_word _ _ (hR i k) i.isLt

/-- The candidates' rows. -/
theorem candidate (h : Open V) (hR : Small lit0t) (i : Fin 2048) (k : Fin 33) (d : Fin 768) :
    res_main_v60 V (ix3 i k d) = V (ref main_arg1) (ix3 0 ⟨cand lit0t i.val k.val, cand_lt hR i k⟩ d) := by
  unfold res_main_v60
  obtain ⟨k, hk⟩ := k
  rcases k with _ | k
  · refine (concatenate_pair_apply_left (s₁ := S2048x1x768) (s₂ := S2048x32x768) (1 : Fin S2048x33x768.rank) _ _ _ (ix3 i ⟨0, hk⟩ d) rfl (ix3 i 0 d) (fun b => ?_)).trans ?_
    · match b with
      | ⟨0, _⟩ => rfl
      | ⟨1, _⟩ => rfl
      | ⟨2, _⟩ => rfl
    · refine (broadcastInDim_apply _ bcast_S2048x768_S2048x1x768_0_2 _ _ (ix2 i d) fun a => ?_).trans (label h i d)
      match a with
      | ⟨0, _⟩ => rfl
      | ⟨1, _⟩ => rfl
  · have hk' : k < 32 := by omega
    refine (concatenate_pair_apply_right (s₁ := S2048x1x768) (s₂ := S2048x32x768) (1 : Fin S2048x33x768.rank) _ _ _ (ix3 i ⟨k + 1, hk⟩ d) rfl rfl (ix3 i ⟨k, hk'⟩ d) (fun b hb => ?_) rfl).trans ?_
    · match b with
      | ⟨0, _⟩ => rfl
      | ⟨1, _⟩ => exact absurd rfl hb
      | ⟨2, _⟩ => rfl
    · refine (gather_many _ _ i ⟨cand lit0t i.val (k + 1), cand_lt hR i ⟨k + 1, hk⟩⟩ ⟨k, hk'⟩ d ?_).trans (label h _ d)
      refine (broadcastInDim_apply _ bcast_S2048x32_S2048x32x1_0_1 _ _ (ix2 i ⟨k, hk'⟩) fun a => ?_).trans ?_
      · match a with
        | ⟨0, _⟩ => rfl
        | ⟨1, _⟩ => rfl
      · exact wrap (shifted hR i ⟨k, hk'⟩) (lt_trans (cand_lt hR i ⟨k + 1, hk⟩) (by decide)) _

theorem spread (h : Open V) (i : Fin 2048) (d : Fin 768) : res_main_v76 V (ix3 i 0 d) = V (ref main_arg0) (ix3 0 i d) := by
  unfold res_main_v76
  refine (broadcastInDim_apply _ bcast_S2048x768_S2048x1x768_0_2 _ _ (ix2 i d) fun a => ?_).trans (context h i d)
  match a with
  | ⟨0, _⟩ => rfl
  | ⟨1, _⟩ => rfl

/-- The rows of the two arguments. -/
def ctx (V : Val) (i : Fin 2048) (d : Fin 768) : EReal := V (ref main_arg0) (ix3 0 i d)
def lab (V : Val) (i : Fin 2048) (d : Fin 768) : EReal := V (ref main_arg1) (ix3 0 i d)

theorem result (h : Open V) (hR : Small lit0t) (j : S_.Idx) :
    val3 V (ref main_v101) j
      = -Ideal.div (∑ i, Ideal.log (Ideal.div (Row.ours (ctx V i) (lab V i))
            (∑ k : Fin 33, Row.ours (ctx V i) (lab V ⟨cand lit0t i.val k.val, cand_lt hR i k⟩)))) (Ideal.ofBits .f32 1157627904#32)
        + Ideal.ofBits .f32 1053609165#32 * (V (ref main_arg2) j : EReal) := by
  have e1 : ∀ (i : Fin 2048) (d : Fin 768), res_main_v32 V (ix2 i d) = V (ref main_arg0) (ix3 0 i d) := context h
  have e2 : ∀ (i : Fin 2048) (d : Fin 768), res_main_v43 V (ix2 i d) = V (ref main_arg1) (ix3 0 i d) := label h
  have e3 := candidate h hR
  have e4 := spread h
  rw [val3_main_v101]
  generalize res_main_v32 V = A at e1 ⊢
  generalize res_main_v43 V = B at e2 ⊢
  generalize res_main_v60 V = C at e3 ⊢
  generalize res_main_v76 V = D at e4 ⊢
  pointwise
  simp only [e1, e2, e3, e4]
  rfl

end Cert.Proof.Places

end
-- ==== Proof.KernelValue.lean ====
/-
  The kernel's result over the arguments, over the extended reals: the sums the tiles gather are the sums of the terms of each row against
  its candidates, since the index table names the candidates' places.
-/
module

public import proofs.«01_k».proof.Proof.GramValue
public import proofs.«01_k».proof.Proof.Chain
public import proofs.«01_k».proof.Proof.InRange
public import proofs.«01_k».proof.Proof.RefValue

@[expose] public section

set_option maxRecDepth 16384

noncomputable section

namespace Cert.Proof.Run

open Cert.KernelIdeal Cert.KernelIdeal.Gen
open Idealize.ShloMosaic Idealize.ShloMosaic.TcCoe
open Cert.Proof.Tables (place moved)
open Cert.Proof.Places (cand)

variable (m : (ℓ : Loc nD τ sig) → Buf (Elt Ideal) ℓ)

/-- The rows of the two arguments. -/
def ctxK (d : Dev nD) (i : Fin 2048) (k : Fin 768) : EReal := m ((SparseCore.T d).loc main_arg0) (ix3 (0 : Fin 1) i k)
def labK (d : Dev nD) (i : Fin 2048) (k : Fin 768) : EReal := m ((SparseCore.T d).loc main_arg1) (ix3 (0 : Fin 1) i k)

theorem VA_v0 (d : Dev nD) : VA m d main_v0 = shapeCast S2048x768 (m ((SparseCore.T d).loc main_arg0)) shapeCasts_S1x2048x768_S2048x768 := by
  unfold VA
  rw [StableHlo.reshape_result_ne _ _ _ _ _ (by decide), StableHlo.reshape_result_ne _ _ _ _ _ (by decide), StableHlo.reshape_result',
    StableHlo.nullary_result_ne (h := by decide)]
  · rfl
  all_goals decide

theorem VA_v1 (d : Dev nD) : VA m d main_v1 = shapeCast S2048x768 (m ((SparseCore.T d).loc main_arg1)) shapeCasts_S1x2048x768_S2048x768 := by
  unfold VA
  rw [StableHlo.reshape_result_ne _ _ _ _ _ (by decide), StableHlo.reshape_result', StableHlo.reshape_result_ne _ _ _ _ _ (by decide),
    StableHlo.nullary_result_ne (h := by decide)]
  · rfl
  all_goals decide

theorem VA_v2 (d : Dev nD) : VA m d main_v2 = shapeCast S1 (m ((SparseCore.T d).loc main_arg2)) shapeCasts_S_S1 := by
  unfold VA
  rw [StableHlo.reshape_result', StableHlo.reshape_result_ne _ _ _ _ _ (by decide), StableHlo.reshape_result_ne _ _ _ _ _ (by decide),
    StableHlo.nullary_result_ne (h := by decide)]
  · rfl
  all_goals decide

theorem row0 (d : Dev nD) (i : Fin 2048) (k : Fin 768) : VA m d main_v0 (ix2 i k) = ctxK m d i k := by
  rw [VA_v0]
  refine shapeCast_apply _ shapeCasts_S1x2048x768_S2048x768 _ (ix3 (0 : Fin 1) i k) ?_
  rw [Shape.rowMajor_val_three, Shape.rowMajor_val_two]
  show (0 * 2048 + i.val) * 768 + k.val = i.val * 768 + k.val
  omega

theorem row1 (d : Dev nD) (i : Fin 2048) (k : Fin 768) : VA m d main_v1 (ix2 i k) = labK m d i k := by
  rw [VA_v1]
  refine shapeCast_apply _ shapeCasts_S1x2048x768_S2048x768 _ (ix3 (0 : Fin 1) i k) ?_
  rw [Shape.rowMajor_val_three, Shape.rowMajor_val_two]
  show (0 * 2048 + i.val) * 768 + k.val = i.val * 768 + k.val
  omega

theorem gramOut_at (d : Dev nD) (x : S16x2048x128.Idx) (i c : Fin 2048) (hi : x 1 = i) (hc : column x = c) :
    gramOut m d x = Row.theirs (ctxK m d i) (labK m d c) := by
  subst hi hc
  refine (congrFun (gram_value (refs (VA m)) d) x).trans ?_
  unfold terms
  refine congr (congrArg Row.theirs (funext fun k => row0 m d (x 1) k)) (funext fun k => row1 m d (column x) k)

theorem flat_eq (d : Dev nD) : flat m d = shapeCast S4194304 (gramOut m d) shapeCasts_S16x2048x128_S4194304 := by
  unfold flat VC
  rw [StableHlo.reshape_result']
  unfold VB
  rw [Function.update_self]
  rfl

/-- The flat terms at the place of row `i`, column `c`. -/
theorem flat_at (d : Dev nD) (i c : Fin 2048) : flat m d (flatIx (place i.val c.val)) = Row.theirs (ctxK m d i) (labK m d c) := by
  rw [flat_eq]
  have hi := i.isLt
  have hc := c.isLt
  have hq : c.val / 128 < 16 := by omega
  have hr : c.val % 128 < 128 := Nat.mod_lt _ (by decide)
  refine (shapeCast_apply _ shapeCasts_S16x2048x128_S4194304 _ (ix3 (⟨c.val / 128, hq⟩ : Fin 16) i (⟨c.val % 128, hr⟩ : Fin 128)) ?_).trans
    (gramOut_at m d _ i c rfl (Fin.ext ?_))
  · rw [Shape.rowMajor_val_three, Shape.rowMajor_val_one]
    show (c.val / 128 * 2048 + i.val) * 128 + c.val % 128 = place i.val c.val % 4194304
    rw [Nat.mod_eq_of_lt (Cert.Proof.Tables.place_lt _ _ hi hc)]
    rfl
  · show c.val / 128 * 128 + c.val % 128 = c.val
    omega

theorem small : Places.Small Cert.ReferenceIdeal.lit0t := fun i k => by
  have hi := i.isLt
  have h := ((Cert.Proof.Tables.tiles ⟨i.val / 64, by omega⟩ ⟨i.val % 64, Nat.mod_lt _ (by decide)⟩).2 k).1
  rwa [show i.val / 64 * 64 + i.val % 64 = i.val by omega] at h

/-- The table's word for row `i`, candidate `k`, over any two tables that agree. -/
theorem word_of (L R : ℕ → BitVec 32)
    (ok : ∀ w : Fin 32, ∀ t : Fin 64, (L (w.val * 2176 + t.val)).toNat = place (w.val * 64 + t.val) (w.val * 64 + t.val)
      ∧ ∀ k : Fin 32, (R ((w.val * 64 + t.val) * 32 + k.val)).toNat < 2047
        ∧ (L (w.val * 2176 + (k.val + 1) * 64 + t.val)).toNat = place (w.val * 64 + t.val) (moved (w.val * 64 + t.val) (R ((w.val * 64 + t.val) * 32 + k.val)).toNat))
    (i : Fin 2048) (k : ℕ) (hk : k < 33) : (L (i.val / 64 * 2176 + (i.val % 64 + 64 * k))).toNat = place i.val (cand R i.val k) := by
  have hi := i.isLt
  have h := ok ⟨i.val / 64, by omega⟩ ⟨i.val % 64, Nat.mod_lt _ (by decide)⟩
  simp only [show i.val / 64 * 64 + i.val % 64 = i.val by omega] at h
  rcases k with _ | k
  · exact h.1
  · have h' := (h.2 ⟨k, by omega⟩).2
    rw [show i.val / 64 * 2176 + (i.val % 64 + 64 * (k + 1)) = i.val / 64 * 2176 + (k + 1) * 64 + i.val % 64 by omega]
    exact h'

/-- What a tile gathers for row `i` at step `k`. -/
theorem lane_at (d : Dev nD) (i : Fin 2048) (k : Fin 33) :
    lane (gath (flat m d) (words m d) (tileOf (ix1 i))) (i.val % 64) k.val
      = Row.theirs (ctxK m d i) (labK m d ⟨cand Cert.ReferenceIdeal.lit0t i.val k.val, Places.cand_lt small i k⟩) := by
  have hi := i.isLt
  have hk := k.isLt
  have hw : (words m d (tblIx (tileOf (ix1 i)) (i.val % 64 + 64 * k.val))).toNat = place i.val (cand Cert.ReferenceIdeal.lit0t i.val k.val) := by
    rw [words_eq, table_at]
    show (lit0t (i.val / 64 * 2176 + (i.val % 64 + 64 * k.val) % 2176)).toNat = _
    rw [Nat.mod_eq_of_lt (by omega)]
    exact word_of lit0t Cert.ReferenceIdeal.lit0t Cert.Proof.Tables.tiles i k.val hk
  unfold lane gath
  rw [hw]
  exact flat_at m d i ⟨_, Places.cand_lt small i k⟩

theorem sumTo_eq (f : ℕ → EReal) (n : ℕ) : sumTo (F := Ideal) f n = ∑ k : Fin (n + 1), f k.val := by
  induction n with
  | zero => simp [sumTo]
  | succ n ih =>
    rw [Fin.sum_univ_castSucc]
    show sumTo (F := Ideal) f n + f (n + 1) = _
    rw [ih]
    rfl

theorem neg_at (d : Dev nD) (i : Fin 2048) : negOf (flat m d) (words m d) (ix1 i)
    = ∑ k : Fin 33, Row.theirs (ctxK m d i) (labK m d ⟨cand Cert.ReferenceIdeal.lit0t i.val k.val, Places.cand_lt small i k⟩) :=
  (sumTo_eq _ 32).trans (Finset.sum_congr rfl fun k _ => lane_at m d i k)

theorem pos_at (d : Dev nD) (i : Fin 2048) : posOf (flat m d) (words m d) (ix1 i) = Row.theirs (ctxK m d i) (labK m d i) :=
  lane_at m d i 0

theorem VD_v2 (d : Dev nD) (j : S_.Idx) : VD m d main_v2 only = m ((SparseCore.T d).loc main_arg2) j := by
  unfold VD VC VB
  rw [Function.update_of_ne (by decide), Function.update_of_ne (by decide), StableHlo.reshape_result_ne _ _ _ _ _ (by decide), Function.update_of_ne (by decide), VA_v2]
  · exact congrArg (m ((SparseCore.T d).loc main_arg2)) (funext fun a : Fin 0 => a.elim0)
  all_goals decide

theorem VF_v7 (d : Dev nD) : VF m d main_v7 = shapeCast S_ (lossOut m d) shapeCasts_S1x1_S_ := by
  unfold VF
  rw [StableHlo.reshape_result']
  unfold VE
  rw [Function.update_self]
  rfl

theorem result (d : Dev nD) (j : S_.Idx) : VF m d main_v7 j
    = Ideal.div (0 - ∑ i : Fin 2048, (Ideal.log (Row.theirs (ctxK m d i) (labK m d i))
        - Ideal.log (∑ k : Fin 33, Row.theirs (ctxK m d i) (labK m d ⟨cand Cert.ReferenceIdeal.lit0t i.val k.val, Places.cand_lt small i k⟩))))
          (Ideal.ofBits .f32 1157627904#32)
      + Ideal.ofBits .f32 1053609165#32 * (m ((SparseCore.T d).loc main_arg2) j : EReal) := by
  rw [VF_v7]
  unfold shapeCast
  refine (congrFun (loss_value (refs (VD m)) d) _).trans ?_
  show k2_pay1 (F := Ideal) (VD m d main_v5_1) (VD m d main_v5_0) (VD m d main_v2 only) = _
  rw [VD_p, VD_n, VD_v2 m d j, loss_at]
  simp only [pos_at, neg_at]

end Cert.Proof.Run

end
-- ==== Proof.Value.lean ====
/-
  The kernel's result is the reference's: where each row is usable, the two terms are one positive real, and the two means over them agree.
-/
module

public import proofs.«01_k».proof.Defs
public import proofs.«01_k».proof.Proof.Pre
public import proofs.«01_k».proof.Proof.KernelValue
public import proofs.«01_k».proof.Proof.RefValue
public import proofs.«01_k».proof.Proof.Launch
public import proofs.«01_k».proof.Proof.InRange
public import proofs.«01_k».proof.Proof.Gen.ReferenceIdeal.Run

@[expose] public section

set_option maxRecDepth 16384

noncomputable section

namespace Cert.Proof

open Idealize.ShloMosaic Idealize.SL.Sem Idealize.ShloMosaic.TcCoe
open Idealize.ShloMosaic.StableHlo (launchContents)
open Cert.ReferenceIdeal.Value (val3 val3_main_v101)

attribute [local instance] Pre.facts

variable (m : (ℓ : Loc Cert.KernelIdeal.nD Cert.KernelIdeal.τ Cert.KernelIdeal.sig) → Buf (Elt Ideal) ℓ)

/-- The reference's result over an unmasked sentence whose arguments are the kernel's, at usable rows. -/
theorem same (d : Dev Cert.KernelIdeal.nD) (V : Places.Val) (hV : Places.Open V)
    (h0 : Places.ctx V = Run.ctxK m d) (h1 : Places.lab V = Run.labK m d)
    (h2 : ∀ j, V (Places.ref Cert.ReferenceIdeal.main_arg2) j = m ((SparseCore.T d).loc Cert.KernelIdeal.main_arg2) j)
    (u0 : ∀ i, Row.Usable (Run.ctxK m d i)) (u1 : ∀ i, Row.Usable (Run.labK m d i)) (j : Cert.KernelIdeal.S_.Idx) :
    val3 V (Places.ref Cert.ReferenceIdeal.main_v101) j = Run.VF m d Cert.KernelIdeal.main_v7 j := by
  have e : ∀ i k, Row.ours (Run.ctxK m d i) (Run.labK m d k) = Row.theirs (Run.ctxK m d i) (Run.labK m d k) := fun i k => by
    obtain ⟨r, -, ht, ho⟩ := Row.agree (u0 i) (u1 k)
    rw [ht, ho]
  have p : ∀ i k, ∃ r : ℝ, 0 < r ∧ Row.theirs (Run.ctxK m d i) (Run.labK m d k) = r := fun i k => by
    obtain ⟨r, hr, ht, -⟩ := Row.agree (u0 i) (u1 k)
    exact ⟨r, hr, ht⟩
  refine (Places.result hV Run.small j).trans (Eq.trans ?_ (Run.result m d j).symm)
  rw [Row.mean _ _ 0 (fun i => p i i) (fun i k => p i _), h0, h1, h2]
  simp only [e]

/-- The reference's launch contents, from a memory that agrees with the kernel's on the arguments. -/
theorem equal (m' : (ℓ : Loc Cert.ReferenceIdeal.nD Cert.ReferenceIdeal.τ Cert.ReferenceIdeal.sig) → Buf (Elt Ideal) ℓ) (c : Dev Cert.KernelIdeal.nD)
    (hp : Cert.Pre_rows_usable.fn (F := Ideal) (m ((SparseCore.T c).loc Cert.KernelIdeal.main_arg0)) (m ((SparseCore.T c).loc Cert.KernelIdeal.main_arg1))
      (m ((SparseCore.T c).loc Cert.KernelIdeal.main_arg2)) (m ((SparseCore.T c).loc Cert.KernelIdeal.main_arg3)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    val3 (launchContents m' c) (Places.ref Cert.ReferenceIdeal.main_v101) = Run.VF m c Cert.KernelIdeal.main_v7 := by
  obtain ⟨hk, ha, hb⟩ := Pre.said _ _ _ _ hp
  exact funext fun j => same m c (launchContents m' c) (fun i => (congrFun h3 i).trans (hk i))
    (funext fun i => funext fun d => congrFun h0 (ix3 0 i d)) (funext fun i => funext fun d => congrFun h1 (ix3 0 i d)) (fun j => congrFun h2 j) ha hb j

theorem algebraic : Cert.algebraic_KernelIdeal_ReferenceIdeal_pre_rows_usable (hPre_rows_usable := Pre.facts) := fun m g m' g' hp ha =>
  ⟨fun c => Run.VF m c Cert.KernelIdeal.main_v7,
    (θ_run Cert.KernelIdeal.defs _ _).mono
      (fun _ h c => ⟨(h.1 c).1, (h.1 c).2 _ (by decide), (h.1 c).2 _ (by decide), (h.1 c).2 _ (by decide), (h.1 c).2 _ (by decide)⟩)
      (Run.run_main (F := Ideal) m g (Run.inRange m)),
    (θ_run Cert.ReferenceIdeal.defs _ _).mono
      (fun _ h c => ⟨((h c).1.trans (val3_main_v101 _).symm).trans (equal m m' c (hp c) (ha c).1 (ha c).2.1 (ha c).2.2.1 (ha c).2.2.2), (h c).2⟩)
      (Cert.ReferenceIdeal.Value.run (F := Ideal) m' g')⟩

end Cert.Proof

end
-- ==== Proof.lean ====
/-
  The claims together: the frames, the idealization preserved, and the kernel's result the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Pre.facts,
  frame_kernel, frame_ideal, fun m g _ => frame_ideal m g trivial, frame_reference, fun m g _ => frame_reference m g trivial,
  IdealRules.named_const.statement _ _ _ _ _ rfl, algebraic⟩

end Cert.Proof

end
